-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_regular [hPre_regular : Cert.Pre_regular.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_regular.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_regular [hPre_regular : Cert.Pre_regular.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_regular.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_regular [hKernel2Ideal : Cert.Kernel2Ideal.Facts] [hPre_regular : Cert.Pre_regular.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_regular m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_regular [hReference2Ideal : Cert.Reference2Ideal.Facts] [hPre_regular : Cert.Pre_regular.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_regular m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "weight" .f32 0x39FFFF58#32 ((134217728 / 274880655723 : ℝ) : EReal)

def algebraic_Kernel2Ideal_Reference2Ideal_pre_regular [hKernel2Ideal : Cert.Kernel2Ideal.Facts] [hReference2Ideal : Cert.Reference2Ideal.Facts] [hPre_regular : Cert.Pre_regular.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_regular m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v148) = v0 c
          ∧ r.2.mem ((c.tc : Thread Cert.Reference2Ideal.nD Cert.Reference2Ideal.τ).loc Cert.Reference2Ideal.main_v179) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_regular : Cert.Pre_regular.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_regular (hKernel2Ideal := hKernel2Ideal) (hPre_regular := hPre_regular)
    ∧ quiescent_Reference2Ideal (hReference2Ideal := hReference2Ideal)
    ∧ quiescent_Reference2Ideal_pre_regular (hReference2Ideal := hReference2Ideal) (hPre_regular := hPre_regular)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_regular (hKernel2Ideal := hKernel2Ideal) (hReference2Ideal := hReference2Ideal) (hPre_regular := hPre_regular)
-- ==== Pre_regular.lean ====
abbrev S4x3x2048 : Shape := ⟨3, ![4, 3, 2048]⟩
abbrev S4x2048x3 : Shape := ⟨3, ![4, 2048, 3]⟩
abbrev S_ : Shape := ⟨0, ![]⟩
abbrev S4x2048x1 : Shape := ⟨3, ![4, 2048, 1]⟩
abbrev S4x1 : Shape := ⟨2, ![4, 1]⟩
abbrev S4x1x1 : Shape := ⟨3, ![4, 1, 1]⟩
abbrev S4x3 : Shape := ⟨2, ![4, 3]⟩
abbrev S4x1x3 : Shape := ⟨3, ![4, 1, 3]⟩
abbrev S4x3x3 : Shape := ⟨3, ![4, 3, 3]⟩
abbrev S4 : Shape := ⟨1, ![4]⟩

class Facts : Prop where
  transposes_S4x3x2048_S4x2048x3_0_2_1 : S4x3x2048.Transposes [0, 2, 1] S4x2048x3
  bcast_S_S4x2048x1 : S_.BroadcastsInDim S4x2048x1 (![] : Fin 0 → Fin S4x2048x1.rank)
  reducesTo_S4x2048x1_S4x1_d1 : S4x2048x1.ReducesTo [1] S4x1
  h_S_ : 0 < S_.numel
  bcast_S4x1_S4x1x1_0_2 : S4x1.BroadcastsInDim S4x1x1 (![0, 2] : Fin 2 → Fin S4x1x1.rank)
  bcast_S_S4x1x1 : S_.BroadcastsInDim S4x1x1 (![] : Fin 0 → Fin S4x1x1.rank)
  bcast_S4x1x1_S4x2048x1_0_1_2 : S4x1x1.BroadcastsInDim S4x2048x1 (![0, 1, 2] : Fin 3 → Fin S4x2048x1.rank)
  bcast_S4x2048x1_S4x2048x3_0_1_2 : S4x2048x1.BroadcastsInDim S4x2048x3 (![0, 1, 2] : Fin 3 → Fin S4x2048x3.rank)
  reducesTo_S4x2048x3_S4x3_d1 : S4x2048x3.ReducesTo [1] S4x3
  bcast_S4x3_S4x1x3_0_2 : S4x3.BroadcastsInDim S4x1x3 (![0, 2] : Fin 2 → Fin S4x1x3.rank)
  bcast_S4x1x3_S4x2048x3_0_1_2 : S4x1x3.BroadcastsInDim S4x2048x3 (![0, 1, 2] : Fin 3 → Fin S4x2048x3.rank)
  transposes_S4x2048x3_S4x3x2048_0_2_1 : S4x2048x3.Transposes [0, 2, 1] S4x3x2048
  bcast_S_S4x3x2048 : S_.BroadcastsInDim S4x3x2048 (![] : Fin 0 → Fin S4x3x2048.rank)
  reducesTo_S4x3x2048_S_d0_1_2 : S4x3x2048.ReducesTo [0, 1, 2] S_
  slices_S4x3x3_S4x1x1_0_0_0 : S4x3x3.Slices ![0, 0, 0] S4x1x1
  shapeCasts_S4x1x1_S4 : S4x1x1.ShapeCasts S4
  slices_S4x3x3_S4x1x1_0_1_1 : S4x3x3.Slices ![0, 1, 1] S4x1x1
  slices_S4x3x3_S4x1x1_0_2_2 : S4x3x3.Slices ![0, 2, 2] S4x1x1
  slices_S4x3x3_S4x1x1_0_1_2 : S4x3x3.Slices ![0, 1, 2] S4x1x1
  slices_S4x3x3_S4x1x1_0_2_1 : S4x3x3.Slices ![0, 2, 1] S4x1x1
  slices_S4x3x3_S4x1x1_0_0_1 : S4x3x3.Slices ![0, 0, 1] S4x1x1
  slices_S4x3x3_S4x1x1_0_1_0 : S4x3x3.Slices ![0, 1, 0] S4x1x1
  slices_S4x3x3_S4x1x1_0_2_0 : S4x3x3.Slices ![0, 2, 0] S4x1x1
  slices_S4x3x3_S4x1x1_0_0_2 : S4x3x3.Slices ![0, 0, 2] S4x1x1
  bcast_S_S4 : S_.BroadcastsInDim S4 (![] : Fin 0 → Fin S4.rank)
  reducesTo_S4_S_d0 : S4.ReducesTo [0] S_
  dot_S4x3x2048_S4x2048x3_S4x3x3_2_1_1_2_0_0_wf : DotDims.WF S4x3x2048 S4x2048x3 S4x3x3 [2] [1] [1] [2] [0] [0]

variable [Facts]

def dot_S4x3x2048_S4x2048x3_S4x3x3_2_1_1_2_0_0 : DotDims S4x3x2048 S4x2048x3 S4x3x3 where
  lhsContracting := [2]
  rhsContracting := [1]
  lhsNonContracting := [1]
  rhsNonContracting := [2]
  lhsBatch := [0]
  rhsBatch := [0]
  wf := dot_S4x3x2048_S4x2048x3_S4x3x3_2_1_1_2_0_0_wf
def fn_part4 {F : FTy → Type} [FloatOps F] (main_v35 : FVec F S4x3x3 .f32) (main_v44 : IVec S_ 1) (main_v73 : FVec F S4 .f32) (main_v75 : FVec F S4 .f32) (main_v80 : FVec F S4 .f32) (main_v81 : FVec F S4x1x1 .f32) : IVec S_ 1 :=
  let main_v82 : FVec F S4 .f32 := shapeCast S4 main_v81 shapeCasts_S4x1x1_S4
  let main_v83 : FVec F S4x1x1 .f32 := (extractStridedSlice S4x1x1 ![0, 2, 0] · slices_S4x3x3_S4x1x1_0_2_0) main_v35
  let main_v84 : FVec F S4 .f32 := shapeCast S4 main_v83 shapeCasts_S4x1x1_S4
  let main_v85 : FVec F S4 .f32 := mulf main_v82 main_v84
  let main_v86 : FVec F S4 .f32 := subf main_v80 main_v85
  let main_v87 : FVec F S4 .f32 := mulf main_v75 main_v86
  let main_v88 : FVec F S4 .f32 := addf main_v73 main_v87
  let main_cst_12 : FVec F S_ .f32 := constant S_ .f32 0x00000000#32
  let main_v89 : FVec F S4 .f32 := broadcastInDim S4 ![] bcast_S_S4 main_cst_12
  let main_v90 : IVec S4 1 := cmpf .une main_v88 main_v89
  let main_c_13 : IVec S_ 1 := constantI S_ 1 1#1
  let main_v91 : IVec S_ 1 := (fun x v => Host.reduce IntOp.andi x v reducesTo_S4_S_d0 h_S_) main_v90 main_c_13
  let main_v92 : IVec S_ 1 := andi main_v44 main_v91
  main_v92

def fn_part3 {F : FTy → Type} [FloatOps F] (main_v35 : FVec F S4x3x3 .f32) (main_v44 : IVec S_ 1) (main_v46 : FVec F S4 .f32) (main_v57 : FVec F S4 .f32) : IVec S_ 1 :=
  let main_v58 : FVec F S4 .f32 := mulf main_v46 main_v57
  let main_v59 : FVec F S4x1x1 .f32 := (extractStridedSlice S4x1x1 ![0, 0, 1] · slices_S4x3x3_S4x1x1_0_0_1) main_v35
  let main_v60 : FVec F S4 .f32 := shapeCast S4 main_v59 shapeCasts_S4x1x1_S4
  let main_v61 : FVec F S4x1x1 .f32 := (extractStridedSlice S4x1x1 ![0, 1, 0] · slices_S4x3x3_S4x1x1_0_1_0) main_v35
  let main_v62 : FVec F S4 .f32 := shapeCast S4 main_v61 shapeCasts_S4x1x1_S4
  let main_v63 : FVec F S4x1x1 .f32 := (extractStridedSlice S4x1x1 ![0, 2, 2] · slices_S4x3x3_S4x1x1_0_2_2) main_v35
  let main_v64 : FVec F S4 .f32 := shapeCast S4 main_v63 shapeCasts_S4x1x1_S4
  let main_v65 : FVec F S4 .f32 := mulf main_v62 main_v64
  let main_v66 : FVec F S4x1x1 .f32 := (extractStridedSlice S4x1x1 ![0, 1, 2] · slices_S4x3x3_S4x1x1_0_1_2) main_v35
  let main_v67 : FVec F S4 .f32 := shapeCast S4 main_v66 shapeCasts_S4x1x1_S4
  let main_v68 : FVec F S4x1x1 .f32 := (extractStridedSlice S4x1x1 ![0, 2, 0] · slices_S4x3x3_S4x1x1_0_2_0) main_v35
  let main_v69 : FVec F S4 .f32 := shapeCast S4 main_v68 shapeCasts_S4x1x1_S4
  let main_v70 : FVec F S4 .f32 := mulf main_v67 main_v69
  let main_v71 : FVec F S4 .f32 := subf main_v65 main_v70
  let main_v72 : FVec F S4 .f32 := mulf main_v60 main_v71
  let main_v73 : FVec F S4 .f32 := subf main_v58 main_v72
  let main_v74 : FVec F S4x1x1 .f32 := (extractStridedSlice S4x1x1 ![0, 0, 2] · slices_S4x3x3_S4x1x1_0_0_2) main_v35
  let main_v75 : FVec F S4 .f32 := shapeCast S4 main_v74 shapeCasts_S4x1x1_S4
  let main_v76 : FVec F S4x1x1 .f32 := (extractStridedSlice S4x1x1 ![0, 1, 0] · slices_S4x3x3_S4x1x1_0_1_0) main_v35
  let main_v77 : FVec F S4 .f32 := shapeCast S4 main_v76 shapeCasts_S4x1x1_S4
  let main_v78 : FVec F S4x1x1 .f32 := (extractStridedSlice S4x1x1 ![0, 2, 1] · slices_S4x3x3_S4x1x1_0_2_1) main_v35
  let main_v79 : FVec F S4 .f32 := shapeCast S4 main_v78 shapeCasts_S4x1x1_S4
  let main_v80 : FVec F S4 .f32 := mulf main_v77 main_v79
  let main_v81 : FVec F S4x1x1 .f32 := (extractStridedSlice S4x1x1 ![0, 1, 1] · slices_S4x3x3_S4x1x1_0_1_1) main_v35
  fn_part4 (F := F) main_v35 main_v44 main_v73 main_v75 main_v80 main_v81

def fn_part2 {F : FTy → Type} [FloatOps F] (main_arg1 : FVec F S4x3x2048 .f32) (main_v35 : FVec F S4x3x3 .f32) (main_v36 : FVec F S4x3x2048 .f32) (main_cst_9 : FVec F S_ .f32) : IVec S_ 1 :=
  let main_v37 : FVec F S4x3x2048 .f32 := broadcastInDim S4x3x2048 ![] bcast_S_S4x3x2048 main_cst_9
  let main_v38 : IVec S4x3x2048 1 := cmpf .olt main_v36 main_v37
  let main_c : IVec S_ 1 := constantI S_ 1 1#1
  let main_v39 : IVec S_ 1 := (fun x v => Host.reduce IntOp.andi x v reducesTo_S4x3x2048_S_d0_1_2 h_S_) main_v38 main_c
  let main_v40 : FVec F S4x3x2048 .f32 := Host.absf main_arg1
  let main_cst_10 : FVec F S_ .f32 := constant S_ .f32 0x7F800000#32
  let main_v41 : FVec F S4x3x2048 .f32 := broadcastInDim S4x3x2048 ![] bcast_S_S4x3x2048 main_cst_10
  let main_v42 : IVec S4x3x2048 1 := cmpf .olt main_v40 main_v41
  let main_c_11 : IVec S_ 1 := constantI S_ 1 1#1
  let main_v43 : IVec S_ 1 := (fun x v => Host.reduce IntOp.andi x v reducesTo_S4x3x2048_S_d0_1_2 h_S_) main_v42 main_c_11
  let main_v44 : IVec S_ 1 := andi main_v39 main_v43
  let main_v45 : FVec F S4x1x1 .f32 := (extractStridedSlice S4x1x1 ![0, 0, 0] · slices_S4x3x3_S4x1x1_0_0_0) main_v35
  let main_v46 : FVec F S4 .f32 := shapeCast S4 main_v45 shapeCasts_S4x1x1_S4
  let main_v47 : FVec F S4x1x1 .f32 := (extractStridedSlice S4x1x1 ![0, 1, 1] · slices_S4x3x3_S4x1x1_0_1_1) main_v35
  let main_v48 : FVec F S4 .f32 := shapeCast S4 main_v47 shapeCasts_S4x1x1_S4
  let main_v49 : FVec F S4x1x1 .f32 := (extractStridedSlice S4x1x1 ![0, 2, 2] · slices_S4x3x3_S4x1x1_0_2_2) main_v35
  let main_v50 : FVec F S4 .f32 := shapeCast S4 main_v49 shapeCasts_S4x1x1_S4
  let main_v51 : FVec F S4 .f32 := mulf main_v48 main_v50
  let main_v52 : FVec F S4x1x1 .f32 := (extractStridedSlice S4x1x1 ![0, 1, 2] · slices_S4x3x3_S4x1x1_0_1_2) main_v35
  let main_v53 : FVec F S4 .f32 := shapeCast S4 main_v52 shapeCasts_S4x1x1_S4
  let main_v54 : FVec F S4x1x1 .f32 := (extractStridedSlice S4x1x1 ![0, 2, 1] · slices_S4x3x3_S4x1x1_0_2_1) main_v35
  let main_v55 : FVec F S4 .f32 := shapeCast S4 main_v54 shapeCasts_S4x1x1_S4
  let main_v56 : FVec F S4 .f32 := mulf main_v53 main_v55
  let main_v57 : FVec F S4 .f32 := subf main_v51 main_v56
  fn_part3 (F := F) main_v35 main_v44 main_v46 main_v57

def fn_part1 {F : FTy → Type} [FloatOps F] (main_arg0 : FVec F S4x3x2048 .f32) (main_arg1 : FVec F S4x3x2048 .f32) (main_v0 : FVec F S4x2048x3 .f32) (main_v1 : FVec F S4x2048x3 .f32) (main_v10 : FVec F S4x2048x1 .f32) (main_v13 : FVec F S4x3 .f32) (main_v16 : FVec F S4x2048x1 .f32) : IVec S_ 1 :=
  let main_cst_6 : FVec F S_ .f32 := constant S_ .f32 0x00000000#32
  let main_v17 : FVec F S4x1 .f32 := (fun x v => Host.reduceAdd x v reducesTo_S4x2048x1_S4x1_d1 h_S_) main_v16 main_cst_6
  let main_v18 : FVec F S4x1x1 .f32 := broadcastInDim S4x1x1 ![0, 2] bcast_S4x1_S4x1x1_0_2 main_v17
  let main_cst_7 : FVec F S_ .f32 := constant S_ .f32 0x3727C5AC#32
  let main_v19 : FVec F S4x1x1 .f32 := broadcastInDim S4x1x1 ![] bcast_S_S4x1x1 main_cst_7
  let main_v20 : FVec F S4x1x1 .f32 := addf main_v18 main_v19
  let main_v21 : FVec F S4x2048x1 .f32 := broadcastInDim S4x2048x1 ![0, 1, 2] bcast_S4x1x1_S4x2048x1_0_1_2 main_v20
  let main_v22 : FVec F S4x2048x1 .f32 := Host.divf main_v16 main_v21
  let main_v23 : FVec F S4x2048x3 .f32 := broadcastInDim S4x2048x3 ![0, 1, 2] bcast_S4x2048x1_S4x2048x3_0_1_2 main_v22
  let main_v24 : FVec F S4x2048x3 .f32 := mulf main_v1 main_v23
  let main_cst_8 : FVec F S_ .f32 := constant S_ .f32 0x00000000#32
  let main_v25 : FVec F S4x3 .f32 := (fun x v => Host.reduceAdd x v reducesTo_S4x2048x3_S4x3_d1 h_S_) main_v24 main_cst_8
  let main_v26 : FVec F S4x1x3 .f32 := broadcastInDim S4x1x3 ![0, 2] bcast_S4x3_S4x1x3_0_2 main_v13
  let main_v27 : FVec F S4x2048x3 .f32 := broadcastInDim S4x2048x3 ![0, 1, 2] bcast_S4x1x3_S4x2048x3_0_1_2 main_v26
  let main_v28 : FVec F S4x2048x3 .f32 := subf main_v0 main_v27
  let main_v29 : FVec F S4x1x3 .f32 := broadcastInDim S4x1x3 ![0, 2] bcast_S4x3_S4x1x3_0_2 main_v25
  let main_v30 : FVec F S4x2048x3 .f32 := broadcastInDim S4x2048x3 ![0, 1, 2] bcast_S4x1x3_S4x2048x3_0_1_2 main_v29
  let main_v31 : FVec F S4x2048x3 .f32 := subf main_v1 main_v30
  let main_v32 : FVec F S4x3x2048 .f32 := (transpose S4x3x2048 [0, 2, 1] · transposes_S4x2048x3_S4x3x2048_0_2_1) main_v28
  let main_v33 : FVec F S4x2048x3 .f32 := broadcastInDim S4x2048x3 ![0, 1, 2] bcast_S4x2048x1_S4x2048x3_0_1_2 main_v10
  let main_v34 : FVec F S4x2048x3 .f32 := mulf main_v31 main_v33
  let main_v35 : FVec F S4x3x3 .f32 := (fun l r => Host.dotGeneral dot_S4x3x2048_S4x2048x3_S4x3x3_2_1_1_2_0_0 none l r) main_v32 main_v34
  let main_v36 : FVec F S4x3x2048 .f32 := Host.absf main_arg0
  let main_cst_9 : FVec F S_ .f32 := constant S_ .f32 0x7F800000#32
  fn_part2 (F := F) main_arg1 main_v35 main_v36 main_cst_9

def fn {F : FTy → Type} [FloatOps F] (main_arg0 : FVec F S4x3x2048 .f32) (main_arg1 : FVec F S4x3x2048 .f32) : IVec S_ 1 :=
  let main_v0 : FVec F S4x2048x3 .f32 := (transpose S4x2048x3 [0, 2, 1] · transposes_S4x3x2048_S4x2048x3_0_2_1) main_arg0
  let main_v1 : FVec F S4x2048x3 .f32 := (transpose S4x2048x3 [0, 2, 1] · transposes_S4x3x2048_S4x2048x3_0_2_1) main_arg1
  let main_cst : FVec F S_ .f32 := constant S_ .f32 0x3F800000#32
  let main_v2 : FVec F S4x2048x1 .f32 := broadcastInDim S4x2048x1 ![] bcast_S_S4x2048x1 main_cst
  let main_cst_0 : FVec F S_ .f32 := constant S_ .f32 0x45000000#32
  let main_v3 : FVec F S4x2048x1 .f32 := broadcastInDim S4x2048x1 ![] bcast_S_S4x2048x1 main_cst_0
  let main_v4 : FVec F S4x2048x1 .f32 := Host.divf main_v2 main_v3
  let main_cst_1 : FVec F S_ .f32 := constant S_ .f32 0x00000000#32
  let main_v5 : FVec F S4x1 .f32 := (fun x v => Host.reduceAdd x v reducesTo_S4x2048x1_S4x1_d1 h_S_) main_v4 main_cst_1
  let main_v6 : FVec F S4x1x1 .f32 := broadcastInDim S4x1x1 ![0, 2] bcast_S4x1_S4x1x1_0_2 main_v5
  let main_cst_2 : FVec F S_ .f32 := constant S_ .f32 0x3727C5AC#32
  let main_v7 : FVec F S4x1x1 .f32 := broadcastInDim S4x1x1 ![] bcast_S_S4x1x1 main_cst_2
  let main_v8 : FVec F S4x1x1 .f32 := addf main_v6 main_v7
  let main_v9 : FVec F S4x2048x1 .f32 := broadcastInDim S4x2048x1 ![0, 1, 2] bcast_S4x1x1_S4x2048x1_0_1_2 main_v8
  let main_v10 : FVec F S4x2048x1 .f32 := Host.divf main_v4 main_v9
  let main_v11 : FVec F S4x2048x3 .f32 := broadcastInDim S4x2048x3 ![0, 1, 2] bcast_S4x2048x1_S4x2048x3_0_1_2 main_v10
  let main_v12 : FVec F S4x2048x3 .f32 := mulf main_v0 main_v11
  let main_cst_3 : FVec F S_ .f32 := constant S_ .f32 0x00000000#32
  let main_v13 : FVec F S4x3 .f32 := (fun x v => Host.reduceAdd x v reducesTo_S4x2048x3_S4x3_d1 h_S_) main_v12 main_cst_3
  let main_cst_4 : FVec F S_ .f32 := constant S_ .f32 0x3F800000#32
  let main_v14 : FVec F S4x2048x1 .f32 := broadcastInDim S4x2048x1 ![] bcast_S_S4x2048x1 main_cst_4
  let main_cst_5 : FVec F S_ .f32 := constant S_ .f32 0x45000000#32
  let main_v15 : FVec F S4x2048x1 .f32 := broadcastInDim S4x2048x1 ![] bcast_S_S4x2048x1 main_cst_5
  let main_v16 : FVec F S4x2048x1 .f32 := Host.divf main_v14 main_v15
  fn_part1 (F := F) main_arg0 main_arg1 main_v0 main_v1 main_v10 main_v13 main_v16
-- ==== Kernel.lean ====
abbrev S2x2x2048x3 : Shape := ⟨4, ![2, 2, 2048, 3]⟩
abbrev S2x1x64x2048x1 : Shape := ⟨5, ![2, 1, 64, 2048, 1]⟩
abbrev S2x2x64x2048x1 : Shape := ⟨5, ![2, 2, 64, 2048, 1]⟩
abbrev S4x4x4 : Shape := ⟨3, ![4, 4, 4]⟩
abbrev S2x2x3x2048 : Shape := ⟨4, ![2, 2, 3, 2048]⟩
abbrev S4x3x2048 : Shape := ⟨3, ![4, 3, 2048]⟩
abbrev S2x1x64x2048 : Shape := ⟨4, ![2, 1, 64, 2048]⟩
abbrev S2x1x2048x64 : Shape := ⟨4, ![2, 1, 2048, 64]⟩
abbrev S2x2048x64 : Shape := ⟨3, ![2, 2048, 64]⟩
abbrev S2x2x64x2048 : Shape := ⟨4, ![2, 2, 64, 2048]⟩
abbrev S4x64x2048 : Shape := ⟨3, ![4, 64, 2048]⟩
abbrev S1x512x64 : Shape := ⟨3, ![1, 512, 64]⟩
abbrev S1x64x2048 : Shape := ⟨3, ![1, 64, 2048]⟩
abbrev S1x3x2048 : Shape := ⟨3, ![1, 3, 2048]⟩
abbrev S1x3x512 : Shape := ⟨3, ![1, 3, 512]⟩
abbrev S512x64 : Shape := ⟨2, ![512, 64]⟩
abbrev S64x2048 : Shape := ⟨2, ![64, 2048]⟩
abbrev S3x2048 : Shape := ⟨2, ![3, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S3x512 : Shape := ⟨2, ![3, 512]⟩

abbrev nBuf : Space → Nat
  | .hbm => 15
  | .vmem => 8
  | .smem => 0
  | _ => 0

abbrev bufTy : (tb : Table) → Fin (tcTables nBuf tb) → BufTy
  | .hbm, ⟨0, _⟩ => ⟨S2x2x2048x3, .f32⟩
  | .hbm, ⟨1, _⟩ => ⟨S2x2x2048x3, .f32⟩
  | .hbm, ⟨2, _⟩ => ⟨S2x1x64x2048x1, .f32⟩
  | .hbm, ⟨3, _⟩ => ⟨S2x2x64x2048x1, .f32⟩
  | .hbm, ⟨4, _⟩ => ⟨S4x4x4, .f32⟩
  | .hbm, ⟨5, _⟩ => ⟨S2x2x3x2048, .f32⟩
  | .hbm, ⟨6, _⟩ => ⟨S4x3x2048, .f32⟩
  | .hbm, ⟨7, _⟩ => ⟨S2x2x3x2048, .f32⟩
  | .hbm, ⟨8, _⟩ => ⟨S4x3x2048, .f32⟩
  | .hbm, ⟨9, _⟩ => ⟨S2x1x64x2048, .f32⟩
  | .hbm, ⟨10, _⟩ => ⟨S2x1x2048x64, .f32⟩
  | .hbm, ⟨11, _⟩ => ⟨S2x2048x64, .f32⟩
  | .hbm, ⟨12, _⟩ => ⟨S2x2x64x2048, .f32⟩
  | .hbm, ⟨13, _⟩ => ⟨S4x64x2048, .f32⟩
  | .hbm, ⟨14, _⟩ => ⟨S4x3x2048, .f32⟩
  | .local _ .vmem, ⟨0, _⟩ => ⟨S1x512x64, .f32⟩
  | .local _ .vmem, ⟨1, _⟩ => ⟨S1x512x64, .f32⟩
  | .local _ .vmem, ⟨2, _⟩ => ⟨S1x64x2048, .f32⟩
  | .local _ .vmem, ⟨3, _⟩ => ⟨S1x64x2048, .f32⟩
  | .local _ .vmem, ⟨4, _⟩ => ⟨S1x3x2048, .f32⟩
  | .local _ .vmem, ⟨5, _⟩ => ⟨S1x3x2048, .f32⟩
  | .local _ .vmem, ⟨6, _⟩ => ⟨S1x3x512, .f32⟩
  | .local _ .vmem, ⟨7, _⟩ => ⟨S1x3x512, .f32⟩
  | _, _ => ⟨S2x2x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x2x2048x3 : Shape := ⟨4, ![2, 2, 2048, 3]⟩
abbrev S2x1x64x2048x1 : Shape := ⟨5, ![2, 1, 64, 2048, 1]⟩
abbrev S2x2x64x2048x1 : Shape := ⟨5, ![2, 2, 64, 2048, 1]⟩
abbrev S4x4x4 : Shape := ⟨3, ![4, 4, 4]⟩
abbrev S2x2x3x2048 : Shape := ⟨4, ![2, 2, 3, 2048]⟩
abbrev S4x3x2048 : Shape := ⟨3, ![4, 3, 2048]⟩
abbrev S2x1x64x2048 : Shape := ⟨4, ![2, 1, 64, 2048]⟩
abbrev S1x2x1x1x1x64x1x2048 : Shape := ⟨8, ![1, 2, 1, 1, 1, 64, 1, 2048]⟩
abbrev S1x2x2x1x1x64x1x2048 : Shape := ⟨8, ![1, 2, 2, 1, 1, 64, 1, 2048]⟩
abbrev S2x2x64x2048 : Shape := ⟨4, ![2, 2, 64, 2048]⟩
abbrev S4x64x2048 : Shape := ⟨3, ![4, 64, 2048]⟩
abbrev S4x2048x64 : Shape := ⟨3, ![4, 2048, 64]⟩
abbrev S4x2048x2048 : Shape := ⟨3, ![4, 2048, 2048]⟩
abbrev S_ : Shape := ⟨0, ![]⟩
abbrev S4x2048 : Shape := ⟨2, ![4, 2048]⟩
abbrev S4x1x2048 : Shape := ⟨3, ![4, 1, 2048]⟩
abbrev S4x2048x1 : Shape := ⟨3, ![4, 2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S2x2x2048x3, .f32⟩
  | .hbm, ⟨1, _⟩ => ⟨S2x2x2048x3, .f32⟩
  | .hbm, ⟨2, _⟩ => ⟨S2x1x64x2048x1, .f32⟩
  | .hbm, ⟨3, _⟩ => ⟨S2x2x64x2048x1, .f32⟩
  | .hbm, ⟨4, _⟩ => ⟨S4x4x4, .f32⟩
  | .hbm, ⟨5, _⟩ => ⟨S2x2x3x2048, .f32⟩
  | .hbm, ⟨6, _⟩ => ⟨S4x3x2048, .f32⟩
  | .hbm, ⟨7, _⟩ => ⟨S2x2x3x2048, .f32⟩
  | .hbm, ⟨8, _⟩ => ⟨S4x3x2048, .f32⟩
  | .hbm, ⟨9, _⟩ => ⟨S2x1x64x2048, .f32⟩
  | .hbm, ⟨10, _⟩ => ⟨S1x2x1x1x1x64x1x2048, .f32⟩
  | .hbm, ⟨11, _⟩ => ⟨S1x2x2x1x1x64x1x2048, .f32⟩
  | .hbm, ⟨12, _⟩ => ⟨S2x2x64x2048, .f32⟩
  | .hbm, ⟨13, _⟩ => ⟨S4x64x2048, .f32⟩
  | .hbm, ⟨14, _⟩ => ⟨S2x2x64x2048, .f32⟩
  | .hbm, ⟨15, _⟩ => ⟨S4x64x2048, .f32⟩
  | .hbm, ⟨16, _⟩ => ⟨S4x2048x64, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .f32⟩
  | .hbm, ⟨21, _⟩ => ⟨S4x64x2048, .f32⟩
  | .hbm, ⟨22, _⟩ => ⟨S_, .f32⟩
  | .hbm, ⟨23, _⟩ => ⟨S4x2048, .f32⟩
  | .hbm, ⟨24, _⟩ => ⟨S4x1x2048, .f32⟩
  | .hbm, ⟨25, _⟩ => ⟨S4x2048x1, .f32⟩
  | .hbm, ⟨26, _⟩ => ⟨S4x64x2048, .f32⟩
  | .hbm, ⟨27, _⟩ => ⟨S_, .f32⟩
  | .hbm, ⟨28, _⟩ => ⟨S4x2048, .f32⟩
  | .hbm, ⟨29, _⟩ => ⟨S4x1x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S_, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x3x2048, .f32⟩
  | .hbm, ⟨51, _⟩ => ⟨S_, .i1⟩
  | .hbm, ⟨52, _⟩ => ⟨S4x2048x1, .i1⟩
  | .hbm, ⟨53, _⟩ => ⟨S4x1x2048, .i1⟩
  | .hbm, ⟨54, _⟩ => ⟨S4x3x2048, .i1⟩
  | .hbm, ⟨55, _⟩ => ⟨S_, .f32⟩
  | .hbm, ⟨56, _⟩ => ⟨S_, .f32⟩
  | .hbm, ⟨57, _⟩ => ⟨S4x3x2048, .f32⟩
  | .hbm, ⟨58, _⟩ => ⟨S4x3x2048, .f32⟩
  | .hbm, ⟨59, _⟩ => ⟨S_, .f32⟩
  | .hbm, ⟨60, _⟩ => ⟨S_, .f32⟩
  | .hbm, ⟨61, _⟩ => ⟨S4x3x2048, .f32⟩
  | .hbm, ⟨62, _⟩ => ⟨S4x3x2048, .f32⟩
  | _, _ => ⟨S2x2x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_v43 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel2.lean ====
abbrev S4x3x2048 : Shape := ⟨3, ![4, 3, 2048]⟩
abbrev S4x3x3 : Shape := ⟨3, ![4, 3, 3]⟩
abbrev S4x3x1 : Shape := ⟨3, ![4, 3, 1]⟩
abbrev S4x3 : Shape := ⟨2, ![4, 3]⟩
abbrev S1x3x2048 : Shape := ⟨3, ![1, 3, 2048]⟩
abbrev S3x2048 : Shape := ⟨2, ![3, 2048]⟩
abbrev S3x3 : Shape := ⟨2, ![3, 3]⟩
abbrev S4x1x1 : Shape := ⟨3, ![4, 1, 1]⟩
abbrev S1x3x3 : Shape := ⟨3, ![1, 3, 3]⟩
abbrev S4x1x3 : Shape := ⟨3, ![4, 1, 3]⟩
abbrev S4x1 : Shape := ⟨2, ![4, 1]⟩
abbrev S1x3x1 : Shape := ⟨3, ![1, 3, 1]⟩
abbrev S1x1x3 : Shape := ⟨3, ![1, 1, 3]⟩

abbrev nBuf : Space → Nat
  | .hbm => 4
  | .vmem => 4
  | .smem => 0
  | _ => 0

abbrev bufTy : (tb : Table) → Fin (tcTables nBuf tb) → BufTy
  | .hbm, ⟨0, _⟩ => ⟨S4x3x2048, .f32⟩
  | .hbm, ⟨1, _⟩ => ⟨S4x3x2048, .f32⟩
  | .hbm, ⟨2, _⟩ => ⟨S4x3x3, .f32⟩
  | .hbm, ⟨3, _⟩ => ⟨S4x3x1, .f32⟩
  | .local _ .vmem, ⟨0, _⟩ => ⟨S4x3x2048, .f32⟩
  | .local _ .vmem, ⟨1, _⟩ => ⟨S4x3x2048, .f32⟩
  | .local _ .vmem, ⟨2, _⟩ => ⟨S4x3x3, .f32⟩
  | .local _ .vmem, ⟨3, _⟩ => ⟨S4x3x1, .f32⟩
  | _, _ => ⟨S4x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_28 : BitVec 32 := 0#32
  let c4_i32 : BitVec 32 := 4#32
  let v96 : BitVec 32 := Scalar.addi c0_i32_28 c4_i32
  let c1_i32_29 : BitVec 32 := 1#32
  ⟨c0_i32_28, v96, c1_i32_29⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Kernel2Ideal.lean ====
variable {F : FTy → Type} [FloatOps F] [Named F]
def κ : String → Option EReal := fun
  | "weight" => some ((134217728 / 274880655723 : ℝ) : EReal)
  | _ => none
-- ==== Reference2Ideal.lean ====
abbrev S4x3x2048 : Shape := ⟨3, ![4, 3, 2048]⟩
abbrev S4x2048x3 : Shape := ⟨3, ![4, 2048, 3]⟩
abbrev S_ : Shape := ⟨0, ![]⟩
abbrev S4x2048x1 : Shape := ⟨3, ![4, 2048, 1]⟩
abbrev S4x1 : Shape := ⟨2, ![4, 1]⟩
abbrev S4x1x1 : Shape := ⟨3, ![4, 1, 1]⟩
abbrev S4x3 : Shape := ⟨2, ![4, 3]⟩
abbrev S4x1x3 : Shape := ⟨3, ![4, 1, 3]⟩
abbrev S4x3x3 : Shape := ⟨3, ![4, 3, 3]⟩
abbrev S3x3 : Shape := ⟨2, ![3, 3]⟩
abbrev S4x3x1 : Shape := ⟨3, ![4, 3, 1]⟩
abbrev S4 : Shape := ⟨1, ![4]⟩
abbrev S3 : Shape := ⟨1, ![3]⟩
abbrev S1x1x3 : Shape := ⟨3, ![1, 1, 3]⟩

abbrev nBuf : Space → Nat
  | .hbm => 438
  | .vmem => 0
  | .smem => 0
  | _ => 0

abbrev hbmTy0_0 (i : Nat) : BufTy := match i % 128 with
  | 0 => ⟨S4x3x2048, .f32⟩
  | 1 => ⟨S4x3x2048, .f32⟩
  | 2 => ⟨S4x2048x3, .f32⟩
  | 3 => ⟨S4x2048x3, .f32⟩
  | 4 => ⟨S_, .f32⟩
  | 5 => ⟨S4x2048x1, .f32⟩
  | 6 => ⟨S_, .f32⟩
  | 7 => ⟨S4x2048x1, .f32⟩
  | 8 => ⟨S4x2048x1, .f32⟩
  | 9 => ⟨S_, .f32⟩
  | 10 => ⟨S4x1, .f32⟩
  | 11 => ⟨S4x1x1, .f32⟩
  | 12 => ⟨S_, .f32⟩
  | 13 => ⟨S4x1x1, .f32⟩
  | 14 => ⟨S4x1x1, .f32⟩
  | 15 => ⟨S4x2048x1, .f32⟩
  | 16 => ⟨S4x2048x1, .f32⟩
  | 17 => ⟨S4x2048x3, .f32⟩
  | 18 => ⟨S4x2048x3, .f32⟩
  | 19 => ⟨S_, .f32⟩
  | 20 => ⟨S4x3, .f32⟩
  | 21 => ⟨S_, .f32⟩
  | 22 => ⟨S4x2048x1, .f32⟩
  | 23 => ⟨S_, .f32⟩
  | 24 => ⟨S4x2048x1, .f32⟩
  | 25 => ⟨S4x2048x1, .f32⟩
  | 26 => ⟨S_, .f32⟩
  | 27 => ⟨S4x1, .f32⟩
  | 28 => ⟨S4x1x1, .f32⟩
  | 29 => ⟨S_, .f32⟩
  | 30 => ⟨S4x1x1, .f32⟩
  | 31 => ⟨S4x1x1, .f32⟩
  | 32 => ⟨S4x2048x1, .f32⟩
  | 33 => ⟨S4x2048x1, .f32⟩
  | 34 => ⟨S4x2048x3, .f32⟩
  | 35 => ⟨S4x2048x3, .f32⟩
  | 36 => ⟨S_, .f32⟩
  | 37 => ⟨S4x3, .f32⟩
  | 38 => ⟨S4x1x3, .f32⟩
  | 39 => ⟨S4x2048x3, .f32⟩
  | 40 => ⟨S4x2048x3, .f32⟩
  | 41 => ⟨S4x1x3, .f32⟩
  | 42 => ⟨S4x2048x3, .f32⟩
  | 43 => ⟨S4x2048x3, .f32⟩
  | 44 => ⟨S4x3x2048, .f32⟩
  | 45 => ⟨S4x2048x3, .f32⟩
  | 46 => ⟨S4x2048x3, .f32⟩
  | 47 => ⟨S4x3x3, .f32⟩
  | 48 => ⟨S3x3, .i32⟩
  | 49 => ⟨S3x3, .i32⟩
  | 50 => ⟨S_, .i32⟩
  | 51 => ⟨S3x3, .i32⟩
  | 52 => ⟨S3x3, .i32⟩
  | 53 => ⟨S3x3, .i1⟩
  | 54 => ⟨S3x3, .f32⟩
  | 55 => ⟨S4x3x3, .f32⟩
  | 56 => ⟨S4x3x1, .f32⟩
  | 57 => ⟨S4x3, .f32⟩
  | 58 => ⟨S4x3x1, .f32⟩
  | 59 => ⟨S4x3, .f32⟩
  | 60 => ⟨S4x3x1, .f32⟩
  | 61 => ⟨S4x3, .f32⟩
  | 62 => ⟨S4x3x1, .f32⟩
  | 63 => ⟨S4x3, .f32⟩
  | 64 => ⟨S4x3x1, .f32⟩
  | 65 => ⟨S4x3, .f32⟩
  | 66 => ⟨S4x3x1, .f32⟩
  | 67 => ⟨S4x3, .f32⟩
  | 68 => ⟨S_, .i32⟩
  | 69 => ⟨S_, .i32⟩
  | 70 => ⟨S_, .i32⟩
  | 71 => ⟨S_, .i32⟩
  | 72 => ⟨S4x3, .f32⟩
  | 73 => ⟨S4x3, .f32⟩
  | 74 => ⟨S4x3, .f32⟩
  | 75 => ⟨S4x3, .f32⟩
  | 76 => ⟨S4x3, .f32⟩
  | 77 => ⟨S4x3, .f32⟩
  | 78 => ⟨S_, .i32⟩
  | 79 => ⟨S_, .i1⟩
  | 80 => ⟨S_, .i32⟩
  | 81 => ⟨S_, .i32⟩
  | 82 => ⟨S4x3, .f32⟩
  | 83 => ⟨S_, .f32⟩
  | 84 => ⟨S4, .f32⟩
  | 85 => ⟨S4x1, .f32⟩
  | 86 => ⟨S4x3, .f32⟩
  | 87 => ⟨S_, .f32⟩
  | 88 => ⟨S4, .f32⟩
  | 89 => ⟨S4x1, .f32⟩
  | 90 => ⟨S4x3, .f32⟩
  | 91 => ⟨S_, .f32⟩
  | 92 => ⟨S4, .f32⟩
  | 93 => ⟨S4x1, .f32⟩
  | 94 => ⟨S4x1, .f32⟩
  | 95 => ⟨S_, .f32⟩
  | 96 => ⟨S4x1, .f32⟩
  | 97 => ⟨S4x1, .f32⟩
  | 98 => ⟨S4x1, .f32⟩
  | 99 => ⟨S_, .f32⟩
  | 100 => ⟨S4x1, .f32⟩
  | 101 => ⟨S4x1, .i1⟩
  | 102 => ⟨S_, .f32⟩
  | 103 => ⟨S_, .f32⟩
  | 104 => ⟨S4x1, .f32⟩
  | 105 => ⟨S4x1, .f32⟩
  | 106 => ⟨S4x1, .f32⟩
  | 107 => ⟨S4x1, .f32⟩
  | 108 => ⟨S4x1, .f32⟩
  | 109 => ⟨S_, .f32⟩
  | 110 => ⟨S4x1, .f32⟩
  | 111 => ⟨S4x1, .f32⟩
  | 112 => ⟨S4x1, .f32⟩
  | 113 => ⟨S4x1, .f32⟩
  | 114 => ⟨S4x1, .f32⟩
  | 115 => ⟨S4x1, .f32⟩
  | 116 => ⟨S_, .f32⟩
  | 117 => ⟨S4x1, .f32⟩
  | 118 => ⟨S4x1, .i1⟩
  | 119 => ⟨S_, .f32⟩
  | 120 => ⟨S_, .f32⟩
  | 121 => ⟨S4x1, .f32⟩
  | 122 => ⟨S4x1, .f32⟩
  | 123 => ⟨S4x1, .f32⟩
  | 124 => ⟨S_, .f32⟩
  | 125 => ⟨S4x1, .f32⟩
  | 126 => ⟨S4x1, .f32⟩
  | 127 => ⟨S4x1, .f32⟩
  | _ => ⟨S4x3x2048, .f32⟩

abbrev hbmTy0_1 (i : Nat) : BufTy := match i % 128 with
  | 0 => ⟨S_, .f32⟩
  | 1 => ⟨S4x1, .f32⟩
  | 2 => ⟨S4x1, .f32⟩
  | 3 => ⟨S4x1, .f32⟩
  | 4 => ⟨S4x3, .f32⟩
  | 5 => ⟨S4x3, .f32⟩
  | 6 => ⟨S4x3, .f32⟩
  | 7 => ⟨S4x3, .f32⟩
  | 8 => ⟨S4x3, .f32⟩
  | 9 => ⟨S4x3, .f32⟩
  | 10 => ⟨S4x3, .f32⟩
  | 11 => ⟨S4x3, .f32⟩
  | 12 => ⟨S4x3, .f32⟩
  | 13 => ⟨S4x3, .f32⟩
  | 14 => ⟨S4x3, .f32⟩
  | 15 => ⟨S4x3, .f32⟩
  | 16 => ⟨S4x3, .f32⟩
  | 17 => ⟨S4x3, .f32⟩
  | 18 => ⟨S4x3, .f32⟩
  | 19 => ⟨S4x3, .f32⟩
  | 20 => ⟨S4x3, .f32⟩
  | 21 => ⟨S4x3, .f32⟩
  | 22 => ⟨S4x3, .f32⟩
  | 23 => ⟨S4x3, .f32⟩
  | 24 => ⟨S4x3, .f32⟩
  | 25 => ⟨S_, .f32⟩
  | 26 => ⟨S4, .f32⟩
  | 27 => ⟨S4x1, .f32⟩
  | 28 => ⟨S4x3, .f32⟩
  | 29 => ⟨S_, .f32⟩
  | 30 => ⟨S4, .f32⟩
  | 31 => ⟨S4x1, .f32⟩
  | 32 => ⟨S4x3, .f32⟩
  | 33 => ⟨S_, .f32⟩
  | 34 => ⟨S4, .f32⟩
  | 35 => ⟨S4x1, .f32⟩
  | 36 => ⟨S4x1, .f32⟩
  | 37 => ⟨S_, .f32⟩
  | 38 => ⟨S4x1, .f32⟩
  | 39 => ⟨S4x1, .f32⟩
  | 40 => ⟨S4x1, .f32⟩
  | 41 => ⟨S_, .f32⟩
  | 42 => ⟨S4x1, .f32⟩
  | 43 => ⟨S4x1, .i1⟩
  | 44 => ⟨S_, .f32⟩
  | 45 => ⟨S_, .f32⟩
  | 46 => ⟨S4x1, .f32⟩
  | 47 => ⟨S4x1, .f32⟩
  | 48 => ⟨S4x1, .f32⟩
  | 49 => ⟨S4x1, .f32⟩
  | 50 => ⟨S4x1, .f32⟩
  | 51 => ⟨S_, .f32⟩
  | 52 => ⟨S4x1, .f32⟩
  | 53 => ⟨S4x1, .f32⟩
  | 54 => ⟨S4x1, .f32⟩
  | 55 => ⟨S4x1, .f32⟩
  | 56 => ⟨S4x1, .f32⟩
  | 57 => ⟨S4x1, .f32⟩
  | 58 => ⟨S_, .f32⟩
  | 59 => ⟨S4x1, .f32⟩
  | 60 => ⟨S4x1, .i1⟩
  | 61 => ⟨S_, .f32⟩
  | 62 => ⟨S_, .f32⟩
  | 63 => ⟨S4x1, .f32⟩
  | 64 => ⟨S4x1, .f32⟩
  | 65 => ⟨S4x1, .f32⟩
  | 66 => ⟨S_, .f32⟩
  | 67 => ⟨S4x1, .f32⟩
  | 68 => ⟨S4x1, .f32⟩
  | 69 => ⟨S4x1, .f32⟩
  | 70 => ⟨S_, .f32⟩
  | 71 => ⟨S4x1, .f32⟩
  | 72 => ⟨S4x1, .f32⟩
  | 73 => ⟨S4x1, .f32⟩
  | 74 => ⟨S4x3, .f32⟩
  | 75 => ⟨S4x3, .f32⟩
  | 76 => ⟨S4x3, .f32⟩
  | 77 => ⟨S4x3, .f32⟩
  | 78 => ⟨S4x3, .f32⟩
  | 79 => ⟨S4x3, .f32⟩
  | 80 => ⟨S4x3, .f32⟩
  | 81 => ⟨S4x3, .f32⟩
  | 82 => ⟨S4x3, .f32⟩
  | 83 => ⟨S4x3, .f32⟩
  | 84 => ⟨S4x3, .f32⟩
  | 85 => ⟨S4x3, .f32⟩
  | 86 => ⟨S4x3, .f32⟩
  | 87 => ⟨S4x3, .f32⟩
  | 88 => ⟨S4x3, .f32⟩
  | 89 => ⟨S4x3, .f32⟩
  | 90 => ⟨S4x3, .f32⟩
  | 91 => ⟨S4x3, .f32⟩
  | 92 => ⟨S4x3, .f32⟩
  | 93 => ⟨S4x3, .f32⟩
  | 94 => ⟨S4x3, .f32⟩
  | 95 => ⟨S_, .f32⟩
  | 96 => ⟨S4, .f32⟩
  | 97 => ⟨S4x1, .f32⟩
  | 98 => ⟨S4x3, .f32⟩
  | 99 => ⟨S_, .f32⟩
  | 100 => ⟨S4, .f32⟩
  | 101 => ⟨S4x1, .f32⟩
  | 102 => ⟨S4x3, .f32⟩
  | 103 => ⟨S_, .f32⟩
  | 104 => ⟨S4, .f32⟩
  | 105 => ⟨S4x1, .f32⟩
  | 106 => ⟨S4x1, .f32⟩
  | 107 => ⟨S_, .f32⟩
  | 108 => ⟨S4x1, .f32⟩
  | 109 => ⟨S4x1, .f32⟩
  | 110 => ⟨S4x1, .f32⟩
  | 111 => ⟨S_, .f32⟩
  | 112 => ⟨S4x1, .f32⟩
  | 113 => ⟨S4x1, .i1⟩
  | 114 => ⟨S_, .f32⟩
  | 115 => ⟨S_, .f32⟩
  | 116 => ⟨S4x1, .f32⟩
  | 117 => ⟨S4x1, .f32⟩
  | 118 => ⟨S4x1, .f32⟩
  | 119 => ⟨S4x1, .f32⟩
  | 120 => ⟨S4x1, .f32⟩
  | 121 => ⟨S_, .f32⟩
  | 122 => ⟨S4x1, .f32⟩
  | 123 => ⟨S4x1, .f32⟩
  | 124 => ⟨S4x1, .f32⟩
  | 125 => ⟨S4x1, .f32⟩
  | 126 => ⟨S4x1, .f32⟩
  | 127 => ⟨S4x1, .f32⟩
  | _ => ⟨S4x3x2048, .f32⟩

abbrev hbmTy0_2 (i : Nat) : BufTy := match i % 128 with
  | 0 => ⟨S_, .f32⟩
  | 1 => ⟨S4x1, .f32⟩
  | 2 => ⟨S4x1, .i1⟩
  | 3 => ⟨S_, .f32⟩
  | 4 => ⟨S_, .f32⟩
  | 5 => ⟨S4x1, .f32⟩
  | 6 => ⟨S4x1, .f32⟩
  | 7 => ⟨S4x1, .f32⟩
  | 8 => ⟨S_, .f32⟩
  | 9 => ⟨S4x1, .f32⟩
  | 10 => ⟨S4x1, .f32⟩
  | 11 => ⟨S4x1, .f32⟩
  | 12 => ⟨S_, .f32⟩
  | 13 => ⟨S4x1, .f32⟩
  | 14 => ⟨S4x1, .f32⟩
  | 15 => ⟨S4x1, .f32⟩
  | 16 => ⟨S4x3, .f32⟩
  | 17 => ⟨S4x3, .f32⟩
  | 18 => ⟨S4x3, .f32⟩
  | 19 => ⟨S4x3, .f32⟩
  | 20 => ⟨S4x3, .f32⟩
  | 21 => ⟨S4x3, .f32⟩
  | 22 => ⟨S4x3, .f32⟩
  | 23 => ⟨S4x3, .f32⟩
  | 24 => ⟨S4x3, .f32⟩
  | 25 => ⟨S4x3, .f32⟩
  | 26 => ⟨S4x3, .f32⟩
  | 27 => ⟨S4x3, .f32⟩
  | 28 => ⟨S4x3, .f32⟩
  | 29 => ⟨S4x3, .f32⟩
  | 30 => ⟨S4x3, .f32⟩
  | 31 => ⟨S4x3, .f32⟩
  | 32 => ⟨S4x3, .f32⟩
  | 33 => ⟨S4x3, .f32⟩
  | 34 => ⟨S4x3, .f32⟩
  | 35 => ⟨S4x3, .f32⟩
  | 36 => ⟨S_, .i32⟩
  | 37 => ⟨S_, .i32⟩
  | 38 => ⟨S4x3x1, .f32⟩
  | 39 => ⟨S4x3x1, .f32⟩
  | 40 => ⟨S4x3x1, .f32⟩
  | 41 => ⟨S4x3x3, .f32⟩
  | 42 => ⟨S4x3x1, .f32⟩
  | 43 => ⟨S4x3x1, .f32⟩
  | 44 => ⟨S4x3x1, .f32⟩
  | 45 => ⟨S4x3x3, .f32⟩
  | 46 => ⟨S4x3x3, .f32⟩
  | 47 => ⟨S_, .f32⟩
  | 48 => ⟨S4x3, .f32⟩
  | 49 => ⟨S4x3, .f32⟩
  | 50 => ⟨S4x1x3, .f32⟩
  | 51 => ⟨S4x3x3, .f32⟩
  | 52 => ⟨S4x3x3, .f32⟩
  | 53 => ⟨S4x3x3, .f32⟩
  | 54 => ⟨S4x3x3, .f32⟩
  | 55 => ⟨S4x1, .f32⟩
  | 56 => ⟨S4, .f32⟩
  | 57 => ⟨S4x1, .f32⟩
  | 58 => ⟨S4, .f32⟩
  | 59 => ⟨S4, .i1⟩
  | 60 => ⟨S4x1, .f32⟩
  | 61 => ⟨S4, .f32⟩
  | 62 => ⟨S4x1, .f32⟩
  | 63 => ⟨S4, .f32⟩
  | 64 => ⟨S4, .i1⟩
  | 65 => ⟨S4, .i1⟩
  | 66 => ⟨S4x1, .f32⟩
  | 67 => ⟨S4, .f32⟩
  | 68 => ⟨S4x1, .f32⟩
  | 69 => ⟨S4, .f32⟩
  | 70 => ⟨S4, .i1⟩
  | 71 => ⟨S_, .i32⟩
  | 72 => ⟨S_, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S3, .i32⟩
  | 80 => ⟨S1x1x3, .i32⟩
  | 81 => ⟨S4x1x1, .i32⟩
  | 82 => ⟨S4x1x1, .i32⟩
  | 83 => ⟨S4x1x3, .i32⟩
  | 84 => ⟨S4x1x3, .i32⟩
  | 85 => ⟨S4x1x3, .i1⟩
  | 86 => ⟨S4x3x3, .f32⟩
  | 87 => ⟨S4x3x3, .i1⟩
  | 88 => ⟨S4x3x3, .f32⟩
  | 89 => ⟨S4x3x3, .f32⟩
  | 90 => ⟨S4x3x3, .f32⟩
  | 91 => ⟨S4x1x1, .f32⟩
  | 92 => ⟨S4, .f32⟩
  | 93 => ⟨S4x1x1, .f32⟩
  | 94 => ⟨S4, .f32⟩
  | 95 => ⟨S4x1x1, .f32⟩
  | 96 => ⟨S4, .f32⟩
  | 97 => ⟨S4, .f32⟩
  | 98 => ⟨S4x1x1, .f32⟩
  | 99 => ⟨S4, .f32⟩
  | 100 => ⟨S4x1x1, .f32⟩
  | 101 => ⟨S4, .f32⟩
  | 102 => ⟨S4, .f32⟩
  | 103 => ⟨S4, .f32⟩
  | 104 => ⟨S4, .f32⟩
  | 105 => ⟨S4x1x1, .f32⟩
  | 106 => ⟨S4, .f32⟩
  | 107 => ⟨S4x1x1, .f32⟩
  | 108 => ⟨S4, .f32⟩
  | 109 => ⟨S4x1x1, .f32⟩
  | 110 => ⟨S4, .f32⟩
  | 111 => ⟨S4, .f32⟩
  | 112 => ⟨S4x1x1, .f32⟩
  | 113 => ⟨S4, .f32⟩
  | 114 => ⟨S4x1x1, .f32⟩
  | 115 => ⟨S4, .f32⟩
  | 116 => ⟨S4, .f32⟩
  | 117 => ⟨S4, .f32⟩
  | 118 => ⟨S4, .f32⟩
  | 119 => ⟨S4, .f32⟩
  | 120 => ⟨S4x1x1, .f32⟩
  | 121 => ⟨S4, .f32⟩
  | 122 => ⟨S4x1x1, .f32⟩
  | 123 => ⟨S4, .f32⟩
  | 124 => ⟨S4x1x1, .f32⟩
  | 125 => ⟨S4, .f32⟩
  | 126 => ⟨S4, .f32⟩
  | 127 => ⟨S4x1x1, .f32⟩
  | _ => ⟨S4x3x2048, .f32⟩

abbrev hbmTy0_3 (i : Nat) : BufTy := match i % 128 with
  | 0 => ⟨S4, .f32⟩
  | 1 => ⟨S4x1x1, .f32⟩
  | 2 => ⟨S4, .f32⟩
  | 3 => ⟨S4, .f32⟩
  | 4 => ⟨S4, .f32⟩
  | 5 => ⟨S4, .f32⟩
  | 6 => ⟨S4, .f32⟩
  | 7 => ⟨S4x1x1, .f32⟩
  | 8 => ⟨S_, .f32⟩
  | 9 => ⟨S4x1x1, .f32⟩
  | 10 => ⟨S4x1x1, .i1⟩
  | 11 => ⟨S4x3x3, .i1⟩
  | 12 => ⟨S4x3x3, .f32⟩
  | 13 => ⟨S4x2048x3, .f32⟩
  | 14 => ⟨S_, .f32⟩
  | 15 => ⟨S4x2048x1, .f32⟩
  | 16 => ⟨S_, .f32⟩
  | 17 => ⟨S4x2048x1, .f32⟩
  | 18 => ⟨S4x2048x1, .f32⟩
  | 19 => ⟨S_, .f32⟩
  | 20 => ⟨S4x1, .f32⟩
  | 21 => ⟨S4x1x1, .f32⟩
  | 22 => ⟨S_, .f32⟩
  | 23 => ⟨S4x1x1, .f32⟩
  | 24 => ⟨S4x1x1, .f32⟩
  | 25 => ⟨S4x2048x1, .f32⟩
  | 26 => ⟨S4x2048x1, .f32⟩
  | 27 => ⟨S4x2048x3, .f32⟩
  | 28 => ⟨S4x2048x3, .f32⟩
  | 29 => ⟨S_, .f32⟩
  | 30 => ⟨S4x3, .f32⟩
  | 31 => ⟨S4x2048x3, .f32⟩
  | 32 => ⟨S_, .f32⟩
  | 33 => ⟨S4x2048x1, .f32⟩
  | 34 => ⟨S_, .f32⟩
  | 35 => ⟨S4x2048x1, .f32⟩
  | 36 => ⟨S4x2048x1, .f32⟩
  | 37 => ⟨S_, .f32⟩
  | 38 => ⟨S4x1, .f32⟩
  | 39 => ⟨S4x1x1, .f32⟩
  | 40 => ⟨S_, .f32⟩
  | 41 => ⟨S4x1x1, .f32⟩
  | 42 => ⟨S4x1x1, .f32⟩
  | 43 => ⟨S4x2048x1, .f32⟩
  | 44 => ⟨S4x2048x1, .f32⟩
  | 45 => ⟨S4x2048x3, .f32⟩
  | 46 => ⟨S4x2048x3, .f32⟩
  | 47 => ⟨S_, .f32⟩
  | 48 => ⟨S4x3, .f32⟩
  | 49 => ⟨S4x3x3, .f32⟩
  | 50 => ⟨S4x3x1, .f32⟩
  | 51 => ⟨S4x3x1, .f32⟩
  | 52 => ⟨S4x3x1, .f32⟩
  | 53 => ⟨S4x3x1, .f32⟩
  | _ => ⟨S4x3x2048, .f32⟩

abbrev hbmTy (i : Nat) : BufTy := match i / 128 with
  | 0 => hbmTy0_0 i
  | 1 => hbmTy0_1 i
  | 2 => hbmTy0_2 i
  | 3 => hbmTy0_3 i
  | _ => ⟨S4x3x2048, .f32⟩

abbrev bufTy : (tb : Table) → Fin (tcTables nBuf tb) → BufTy
  | .hbm, ⟨i, _⟩ => hbmTy i
  | _, _ => ⟨S4x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_9 : Ref sig .tc := ⟨.hbm, 68, rfl⟩
abbrev main_c_10 : Ref sig .tc := ⟨.hbm, 69, rfl⟩
abbrev main_v55_0 : Ref sig .tc := ⟨.hbm, 70, rfl⟩
abbrev main_v55_1 : Ref sig .tc := ⟨.hbm, 71, rfl⟩
abbrev main_v55_2 : Ref sig .tc := ⟨.hbm, 72, rfl⟩
abbrev main_v55_3 : Ref sig .tc := ⟨.hbm, 73, rfl⟩
abbrev main_v55_4 : Ref sig .tc := ⟨.hbm, 74, rfl⟩
abbrev main_v55_5 : Ref sig .tc := ⟨.hbm, 75, rfl⟩
abbrev main_v55_6 : Ref sig .tc := ⟨.hbm, 76, rfl⟩
abbrev main_v55_7 : Ref sig .tc := ⟨.hbm, 77, rfl⟩
abbrev main_while0c_c_33 : Ref sig .tc := ⟨.hbm, 78, rfl⟩
abbrev main_while0c_v180 : Ref sig .tc := ⟨.hbm, 79, rfl⟩
abbrev main_while0b_c_33 : Ref sig .tc := ⟨.hbm, 80, rfl⟩
abbrev main_while0b_v180 : Ref sig .tc := ⟨.hbm, 81, rfl⟩
abbrev main_while0b_v181 : Ref sig .tc := ⟨.hbm, 82, rfl⟩
abbrev main_while0b_cst_34 : Ref sig .tc := ⟨.hbm, 83, rfl⟩
abbrev main_while0b_v182 : Ref sig .tc := ⟨.hbm, 84, rfl⟩
abbrev main_while0b_v183 : Ref sig .tc := ⟨.hbm, 85, rfl⟩
abbrev main_while0b_v184 : Ref sig .tc := ⟨.hbm, 86, rfl⟩
abbrev main_while0b_cst_35 : Ref sig .tc := ⟨.hbm, 87, rfl⟩
abbrev main_while0b_v185 : Ref sig .tc := ⟨.hbm, 88, rfl⟩
abbrev main_while0b_v186 : Ref sig .tc := ⟨.hbm, 89, rfl⟩
abbrev main_while0b_v187 : Ref sig .tc := ⟨.hbm, 90, rfl⟩
abbrev main_while0b_cst_36 : Ref sig .tc := ⟨.hbm, 91, rfl⟩
abbrev main_while0b_v188 : Ref sig .tc := ⟨.hbm, 92, rfl⟩
abbrev main_while0b_v189 : Ref sig .tc := ⟨.hbm, 93, rfl⟩
abbrev main_while0b_v190 : Ref sig .tc := ⟨.hbm, 94, rfl⟩
abbrev main_while0b_cst_37 : Ref sig .tc := ⟨.hbm, 95, rfl⟩
abbrev main_while0b_v191 : Ref sig .tc := ⟨.hbm, 96, rfl⟩
abbrev main_while0b_v192 : Ref sig .tc := ⟨.hbm, 97, rfl⟩
abbrev main_while0b_v193 : Ref sig .tc := ⟨.hbm, 98, rfl⟩
abbrev main_while0b_cst_38 : Ref sig .tc := ⟨.hbm, 99, rfl⟩
abbrev main_while0b_v194 : Ref sig .tc := ⟨.hbm, 100, rfl⟩
abbrev main_while0b_v195 : Ref sig .tc := ⟨.hbm, 101, rfl⟩
abbrev main_while0b_cst_39 : Ref sig .tc := ⟨.hbm, 102, rfl⟩
abbrev main_while0b_cst_40 : Ref sig .tc := ⟨.hbm, 103, rfl⟩
abbrev main_while0b_call0_v0 : Ref sig .tc := ⟨.hbm, 104, rfl⟩
abbrev main_while0b_call0_v1 : Ref sig .tc := ⟨.hbm, 105, rfl⟩
abbrev main_while0b_v196 : Ref sig .tc := ⟨.hbm, 106, rfl⟩
abbrev main_while0b_v197 : Ref sig .tc := ⟨.hbm, 107, rfl⟩
abbrev main_while0b_v198 : Ref sig .tc := ⟨.hbm, 108, rfl⟩
abbrev main_while0b_cst_41 : Ref sig .tc := ⟨.hbm, 109, rfl⟩
abbrev main_while0b_v199 : Ref sig .tc := ⟨.hbm, 110, rfl⟩
abbrev main_while0b_v200 : Ref sig .tc := ⟨.hbm, 111, rfl⟩
abbrev main_while0b_v201 : Ref sig .tc := ⟨.hbm, 112, rfl⟩
abbrev main_while0b_v202 : Ref sig .tc := ⟨.hbm, 113, rfl⟩
abbrev main_while0b_v203 : Ref sig .tc := ⟨.hbm, 114, rfl⟩
abbrev main_while0b_v204 : Ref sig .tc := ⟨.hbm, 115, rfl⟩
abbrev main_while0b_cst_42 : Ref sig .tc := ⟨.hbm, 116, rfl⟩
abbrev main_while0b_v205 : Ref sig .tc := ⟨.hbm, 117, rfl⟩
abbrev main_while0b_v206 : Ref sig .tc := ⟨.hbm, 118, rfl⟩
abbrev main_while0b_cst_43 : Ref sig .tc := ⟨.hbm, 119, rfl⟩
abbrev main_while0b_call1_v0 : Ref sig .tc := ⟨.hbm, 120, rfl⟩
abbrev main_while0b_call1_v1 : Ref sig .tc := ⟨.hbm, 121, rfl⟩
abbrev main_while0b_v207 : Ref sig .tc := ⟨.hbm, 122, rfl⟩
abbrev main_while0b_v208 : Ref sig .tc := ⟨.hbm, 123, rfl⟩
abbrev main_while0b_cst_44 : Ref sig .tc := ⟨.hbm, 124, rfl⟩
abbrev main_while0b_v209 : Ref sig .tc := ⟨.hbm, 125, rfl⟩
abbrev main_while0b_v210 : Ref sig .tc := ⟨.hbm, 126, rfl⟩
abbrev main_while0b_v211 : Ref sig .tc := ⟨.hbm, 127, rfl⟩
abbrev main_while0b_cst_45 : Ref sig .tc := ⟨.hbm, 128, rfl⟩
abbrev main_while0b_v212 : Ref sig .tc := ⟨.hbm, 129, rfl⟩
abbrev main_while0b_v213 : Ref sig .tc := ⟨.hbm, 130, rfl⟩
abbrev main_while0b_v214 : Ref sig .tc := ⟨.hbm, 131, rfl⟩
abbrev main_while0b_v215 : Ref sig .tc := ⟨.hbm, 132, rfl⟩
abbrev main_while0b_v216 : Ref sig .tc := ⟨.hbm, 133, rfl⟩
abbrev main_while0b_v217 : Ref sig .tc := ⟨.hbm, 134, rfl⟩
abbrev main_while0b_v218 : Ref sig .tc := ⟨.hbm, 135, rfl⟩
abbrev main_while0b_v219 : Ref sig .tc := ⟨.hbm, 136, rfl⟩
abbrev main_while0b_v220 : Ref sig .tc := ⟨.hbm, 137, rfl⟩
abbrev main_while0b_v221 : Ref sig .tc := ⟨.hbm, 138, rfl⟩
abbrev main_while0b_v222 : Ref sig .tc := ⟨.hbm, 139, rfl⟩
abbrev main_while0b_v223 : Ref sig .tc := ⟨.hbm, 140, rfl⟩
abbrev main_while0b_v224 : Ref sig .tc := ⟨.hbm, 141, rfl⟩
abbrev main_while0b_v225 : Ref sig .tc := ⟨.hbm, 142, rfl⟩
abbrev main_while0b_v226 : Ref sig .tc := ⟨.hbm, 143, rfl⟩
abbrev main_while0b_v227 : Ref sig .tc := ⟨.hbm, 144, rfl⟩
abbrev main_while0b_v228 : Ref sig .tc := ⟨.hbm, 145, rfl⟩
abbrev main_while0b_v229 : Ref sig .tc := ⟨.hbm, 146, rfl⟩
abbrev main_while0b_v230 : Ref sig .tc := ⟨.hbm, 147, rfl⟩
abbrev main_while0b_v231 : Ref sig .tc := ⟨.hbm, 148, rfl⟩
abbrev main_while0b_v232 : Ref sig .tc := ⟨.hbm, 149, rfl⟩
abbrev main_while0b_v233 : Ref sig .tc := ⟨.hbm, 150, rfl⟩
abbrev main_while0b_v234 : Ref sig .tc := ⟨.hbm, 151, rfl⟩
abbrev main_while0b_v235 : Ref sig .tc := ⟨.hbm, 152, rfl⟩
abbrev main_while0b_cst_46 : Ref sig .tc := ⟨.hbm, 153, rfl⟩
abbrev main_while0b_v236 : Ref sig .tc := ⟨.hbm, 154, rfl⟩
abbrev main_while0b_v237 : Ref sig .tc := ⟨.hbm, 155, rfl⟩
abbrev main_while0b_v238 : Ref sig .tc := ⟨.hbm, 156, rfl⟩
abbrev main_while0b_cst_47 : Ref sig .tc := ⟨.hbm, 157, rfl⟩
abbrev main_while0b_v239 : Ref sig .tc := ⟨.hbm, 158, rfl⟩
abbrev main_while0b_v240 : Ref sig .tc := ⟨.hbm, 159, rfl⟩
abbrev main_while0b_v241 : Ref sig .tc := ⟨.hbm, 160, rfl⟩
abbrev main_while0b_cst_48 : Ref sig .tc := ⟨.hbm, 161, rfl⟩
abbrev main_while0b_v242 : Ref sig .tc := ⟨.hbm, 162, rfl⟩
abbrev main_while0b_v243 : Ref sig .tc := ⟨.hbm, 163, rfl⟩
abbrev main_while0b_v244 : Ref sig .tc := ⟨.hbm, 164, rfl⟩
abbrev main_while0b_cst_49 : Ref sig .tc := ⟨.hbm, 165, rfl⟩
abbrev main_while0b_v245 : Ref sig .tc := ⟨.hbm, 166, rfl⟩
abbrev main_while0b_v246 : Ref sig .tc := ⟨.hbm, 167, rfl⟩
abbrev main_while0b_v247 : Ref sig .tc := ⟨.hbm, 168, rfl⟩
abbrev main_while0b_cst_50 : Ref sig .tc := ⟨.hbm, 169, rfl⟩
abbrev main_while0b_v248 : Ref sig .tc := ⟨.hbm, 170, rfl⟩
abbrev main_while0b_v249 : Ref sig .tc := ⟨.hbm, 171, rfl⟩
abbrev main_while0b_cst_51 : Ref sig .tc := ⟨.hbm, 172, rfl⟩
abbrev main_while0b_cst_52 : Ref sig .tc := ⟨.hbm, 173, rfl⟩
abbrev main_while0b_call2_v0 : Ref sig .tc := ⟨.hbm, 174, rfl⟩
abbrev main_while0b_call2_v1 : Ref sig .tc := ⟨.hbm, 175, rfl⟩
abbrev main_while0b_v250 : Ref sig .tc := ⟨.hbm, 176, rfl⟩
abbrev main_while0b_v251 : Ref sig .tc := ⟨.hbm, 177, rfl⟩
abbrev main_while0b_v252 : Ref sig .tc := ⟨.hbm, 178, rfl⟩
abbrev main_while0b_cst_53 : Ref sig .tc := ⟨.hbm, 179, rfl⟩
abbrev main_while0b_v253 : Ref sig .tc := ⟨.hbm, 180, rfl⟩
abbrev main_while0b_v254 : Ref sig .tc := ⟨.hbm, 181, rfl⟩
abbrev main_while0b_v255 : Ref sig .tc := ⟨.hbm, 182, rfl⟩
abbrev main_while0b_v256 : Ref sig .tc := ⟨.hbm, 183, rfl⟩
abbrev main_while0b_v257 : Ref sig .tc := ⟨.hbm, 184, rfl⟩
abbrev main_while0b_v258 : Ref sig .tc := ⟨.hbm, 185, rfl⟩
abbrev main_while0b_cst_54 : Ref sig .tc := ⟨.hbm, 186, rfl⟩
abbrev main_while0b_v259 : Ref sig .tc := ⟨.hbm, 187, rfl⟩
abbrev main_while0b_v260 : Ref sig .tc := ⟨.hbm, 188, rfl⟩
abbrev main_while0b_cst_55 : Ref sig .tc := ⟨.hbm, 189, rfl⟩
abbrev main_while0b_call3_v0 : Ref sig .tc := ⟨.hbm, 190, rfl⟩
abbrev main_while0b_call3_v1 : Ref sig .tc := ⟨.hbm, 191, rfl⟩
abbrev main_while0b_v261 : Ref sig .tc := ⟨.hbm, 192, rfl⟩
abbrev main_while0b_v262 : Ref sig .tc := ⟨.hbm, 193, rfl⟩
abbrev main_while0b_cst_56 : Ref sig .tc := ⟨.hbm, 194, rfl⟩
abbrev main_while0b_v263 : Ref sig .tc := ⟨.hbm, 195, rfl⟩
abbrev main_while0b_v264 : Ref sig .tc := ⟨.hbm, 196, rfl⟩
abbrev main_while0b_v265 : Ref sig .tc := ⟨.hbm, 197, rfl⟩
abbrev main_while0b_cst_57 : Ref sig .tc := ⟨.hbm, 198, rfl⟩
abbrev main_while0b_v266 : Ref sig .tc := ⟨.hbm, 199, rfl⟩
abbrev main_while0b_v267 : Ref sig .tc := ⟨.hbm, 200, rfl⟩
abbrev main_while0b_v268 : Ref sig .tc := ⟨.hbm, 201, rfl⟩
abbrev main_while0b_v269 : Ref sig .tc := ⟨.hbm, 202, rfl⟩
abbrev main_while0b_v270 : Ref sig .tc := ⟨.hbm, 203, rfl⟩
abbrev main_while0b_v271 : Ref sig .tc := ⟨.hbm, 204, rfl⟩
abbrev main_while0b_v272 : Ref sig .tc := ⟨.hbm, 205, rfl⟩
abbrev main_while0b_v273 : Ref sig .tc := ⟨.hbm, 206, rfl⟩
abbrev main_while0b_v274 : Ref sig .tc := ⟨.hbm, 207, rfl⟩
abbrev main_while0b_v275 : Ref sig .tc := ⟨.hbm, 208, rfl⟩
abbrev main_while0b_v276 : Ref sig .tc := ⟨.hbm, 209, rfl⟩
abbrev main_while0b_v277 : Ref sig .tc := ⟨.hbm, 210, rfl⟩
abbrev main_while0b_v278 : Ref sig .tc := ⟨.hbm, 211, rfl⟩
abbrev main_while0b_v279 : Ref sig .tc := ⟨.hbm, 212, rfl⟩
abbrev main_while0b_v280 : Ref sig .tc := ⟨.hbm, 213, rfl⟩
abbrev main_while0b_v281 : Ref sig .tc := ⟨.hbm, 214, rfl⟩
abbrev main_while0b_v282 : Ref sig .tc := ⟨.hbm, 215, rfl⟩
abbrev main_while0b_v283 : Ref sig .tc := ⟨.hbm, 216, rfl⟩
abbrev main_while0b_v284 : Ref sig .tc := ⟨.hbm, 217, rfl⟩
abbrev main_while0b_v285 : Ref sig .tc := ⟨.hbm, 218, rfl⟩
abbrev main_while0b_v286 : Ref sig .tc := ⟨.hbm, 219, rfl⟩
abbrev main_while0b_v287 : Ref sig .tc := ⟨.hbm, 220, rfl⟩
abbrev main_while0b_v288 : Ref sig .tc := ⟨.hbm, 221, rfl⟩
abbrev main_while0b_v289 : Ref sig .tc := ⟨.hbm, 222, rfl⟩
abbrev main_while0b_cst_58 : Ref sig .tc := ⟨.hbm, 223, rfl⟩
abbrev main_while0b_v290 : Ref sig .tc := ⟨.hbm, 224, rfl⟩
abbrev main_while0b_v291 : Ref sig .tc := ⟨.hbm, 225, rfl⟩
abbrev main_while0b_v292 : Ref sig .tc := ⟨.hbm, 226, rfl⟩
abbrev main_while0b_cst_59 : Ref sig .tc := ⟨.hbm, 227, rfl⟩
abbrev main_while0b_v293 : Ref sig .tc := ⟨.hbm, 228, rfl⟩
abbrev main_while0b_v294 : Ref sig .tc := ⟨.hbm, 229, rfl⟩
abbrev main_while0b_v295 : Ref sig .tc := ⟨.hbm, 230, rfl⟩
abbrev main_while0b_cst_60 : Ref sig .tc := ⟨.hbm, 231, rfl⟩
abbrev main_while0b_v296 : Ref sig .tc := ⟨.hbm, 232, rfl⟩
abbrev main_while0b_v297 : Ref sig .tc := ⟨.hbm, 233, rfl⟩
abbrev main_while0b_v298 : Ref sig .tc := ⟨.hbm, 234, rfl⟩
abbrev main_while0b_cst_61 : Ref sig .tc := ⟨.hbm, 235, rfl⟩
abbrev main_while0b_v299 : Ref sig .tc := ⟨.hbm, 236, rfl⟩
abbrev main_while0b_v300 : Ref sig .tc := ⟨.hbm, 237, rfl⟩
abbrev main_while0b_v301 : Ref sig .tc := ⟨.hbm, 238, rfl⟩
abbrev main_while0b_cst_62 : Ref sig .tc := ⟨.hbm, 239, rfl⟩
abbrev main_while0b_v302 : Ref sig .tc := ⟨.hbm, 240, rfl⟩
abbrev main_while0b_v303 : Ref sig .tc := ⟨.hbm, 241, rfl⟩
abbrev main_while0b_cst_63 : Ref sig .tc := ⟨.hbm, 242, rfl⟩
abbrev main_while0b_cst_64 : Ref sig .tc := ⟨.hbm, 243, rfl⟩
abbrev main_while0b_call4_v0 : Ref sig .tc := ⟨.hbm, 244, rfl⟩
abbrev main_while0b_call4_v1 : Ref sig .tc := ⟨.hbm, 245, rfl⟩
abbrev main_while0b_v304 : Ref sig .tc := ⟨.hbm, 246, rfl⟩
abbrev main_while0b_v305 : Ref sig .tc := ⟨.hbm, 247, rfl⟩
abbrev main_while0b_v306 : Ref sig .tc := ⟨.hbm, 248, rfl⟩
abbrev main_while0b_cst_65 : Ref sig .tc := ⟨.hbm, 249, rfl⟩
abbrev main_while0b_v307 : Ref sig .tc := ⟨.hbm, 250, rfl⟩
abbrev main_while0b_v308 : Ref sig .tc := ⟨.hbm, 251, rfl⟩
abbrev main_while0b_v309 : Ref sig .tc := ⟨.hbm, 252, rfl⟩
abbrev main_while0b_v310 : Ref sig .tc := ⟨.hbm, 253, rfl⟩
abbrev main_while0b_v311 : Ref sig .tc := ⟨.hbm, 254, rfl⟩
abbrev main_while0b_v312 : Ref sig .tc := ⟨.hbm, 255, rfl⟩
abbrev main_while0b_cst_66 : Ref sig .tc := ⟨.hbm, 256, rfl⟩
abbrev main_while0b_v313 : Ref sig .tc := ⟨.hbm, 257, rfl⟩
abbrev main_while0b_v314 : Ref sig .tc := ⟨.hbm, 258, rfl⟩
abbrev main_while0b_cst_67 : Ref sig .tc := ⟨.hbm, 259, rfl⟩
abbrev main_while0b_call5_v0 : Ref sig .tc := ⟨.hbm, 260, rfl⟩
abbrev main_while0b_call5_v1 : Ref sig .tc := ⟨.hbm, 261, rfl⟩
abbrev main_while0b_v315 : Ref sig .tc := ⟨.hbm, 262, rfl⟩
abbrev main_while0b_v316 : Ref sig .tc := ⟨.hbm, 263, rfl⟩
abbrev main_while0b_cst_68 : Ref sig .tc := ⟨.hbm, 264, rfl⟩
abbrev main_while0b_v317 : Ref sig .tc := ⟨.hbm, 265, rfl⟩
abbrev main_while0b_v318 : Ref sig .tc := ⟨.hbm, 266, rfl⟩
abbrev main_while0b_v319 : Ref sig .tc := ⟨.hbm, 267, rfl⟩
abbrev main_while0b_cst_69 : Ref sig .tc := ⟨.hbm, 268, rfl⟩
abbrev main_while0b_v320 : Ref sig .tc := ⟨.hbm, 269, rfl⟩
abbrev main_while0b_v321 : Ref sig .tc := ⟨.hbm, 270, rfl⟩
abbrev main_while0b_v322 : Ref sig .tc := ⟨.hbm, 271, rfl⟩
abbrev main_while0b_v323 : Ref sig .tc := ⟨.hbm, 272, rfl⟩
abbrev main_while0b_v324 : Ref sig .tc := ⟨.hbm, 273, rfl⟩
abbrev main_while0b_v325 : Ref sig .tc := ⟨.hbm, 274, rfl⟩
abbrev main_while0b_v326 : Ref sig .tc := ⟨.hbm, 275, rfl⟩
abbrev main_while0b_v327 : Ref sig .tc := ⟨.hbm, 276, rfl⟩
abbrev main_while0b_v328 : Ref sig .tc := ⟨.hbm, 277, rfl⟩
abbrev main_while0b_v329 : Ref sig .tc := ⟨.hbm, 278, rfl⟩
abbrev main_while0b_v330 : Ref sig .tc := ⟨.hbm, 279, rfl⟩
abbrev main_while0b_v331 : Ref sig .tc := ⟨.hbm, 280, rfl⟩
abbrev main_while0b_v332 : Ref sig .tc := ⟨.hbm, 281, rfl⟩
abbrev main_while0b_v333 : Ref sig .tc := ⟨.hbm, 282, rfl⟩
abbrev main_while0b_v334 : Ref sig .tc := ⟨.hbm, 283, rfl⟩
abbrev main_while0b_v335 : Ref sig .tc := ⟨.hbm, 284, rfl⟩
abbrev main_while0b_v336 : Ref sig .tc := ⟨.hbm, 285, rfl⟩
abbrev main_while0b_v337 : Ref sig .tc := ⟨.hbm, 286, rfl⟩
abbrev main_while0b_v338 : Ref sig .tc := ⟨.hbm, 287, rfl⟩
abbrev main_while0b_v339 : Ref sig .tc := ⟨.hbm, 288, rfl⟩
abbrev main_while0b_v340 : Ref sig .tc := ⟨.hbm, 289, rfl⟩
abbrev main_while0b_v341 : Ref sig .tc := ⟨.hbm, 290, rfl⟩
abbrev main_while0b_v342 : Ref sig .tc := ⟨.hbm, 291, rfl⟩
abbrev main_while0b_c_70 : Ref sig .tc := ⟨.hbm, 292, rfl⟩
abbrev main_while0b_v343 : Ref sig .tc := ⟨.hbm, 293, rfl⟩
abbrev main_v56 : Ref sig .tc := ⟨.hbm, 294, rfl⟩
abbrev main_v57 : Ref sig .tc := ⟨.hbm, 295, rfl⟩
abbrev main_v58 : Ref sig .tc := ⟨.hbm, 296, rfl⟩
abbrev main_v59 : Ref sig .tc := ⟨.hbm, 297, rfl⟩
abbrev main_v60 : Ref sig .tc := ⟨.hbm, 298, rfl⟩
abbrev main_v61 : Ref sig .tc := ⟨.hbm, 299, rfl⟩
abbrev main_v62 : Ref sig .tc := ⟨.hbm, 300, rfl⟩
abbrev main_v63 : Ref sig .tc := ⟨.hbm, 301, rfl⟩
abbrev main_v64 : Ref sig .tc := ⟨.hbm, 302, rfl⟩
abbrev main_cst_11 : Ref sig .tc := ⟨.hbm, 303, rfl⟩
abbrev main_v65 : Ref sig .tc := ⟨.hbm, 304, rfl⟩
abbrev main_v66 : Ref sig .tc := ⟨.hbm, 305, rfl⟩
abbrev main_v67 : Ref sig .tc := ⟨.hbm, 306, rfl⟩
abbrev main_v68 : Ref sig .tc := ⟨.hbm, 307, rfl⟩
abbrev main_v69 : Ref sig .tc := ⟨.hbm, 308, rfl⟩
abbrev main_v70 : Ref sig .tc := ⟨.hbm, 309, rfl⟩
abbrev main_v71 : Ref sig .tc := ⟨.hbm, 310, rfl⟩
abbrev main_v72 : Ref sig .tc := ⟨.hbm, 311, rfl⟩
abbrev main_v73 : Ref sig .tc := ⟨.hbm, 312, rfl⟩
abbrev main_v74 : Ref sig .tc := ⟨.hbm, 313, rfl⟩
abbrev main_v75 : Ref sig .tc := ⟨.hbm, 314, rfl⟩
abbrev main_v76 : Ref sig .tc := ⟨.hbm, 315, rfl⟩
abbrev main_v77 : Ref sig .tc := ⟨.hbm, 316, rfl⟩
abbrev main_v78 : Ref sig .tc := ⟨.hbm, 317, rfl⟩
abbrev main_v79 : Ref sig .tc := ⟨.hbm, 318, rfl⟩
abbrev main_v80 : Ref sig .tc := ⟨.hbm, 319, rfl⟩
abbrev main_v81 : Ref sig .tc := ⟨.hbm, 320, rfl⟩
abbrev main_v82 : Ref sig .tc := ⟨.hbm, 321, rfl⟩
abbrev main_v83 : Ref sig .tc := ⟨.hbm, 322, rfl⟩
abbrev main_v84 : Ref sig .tc := ⟨.hbm, 323, rfl⟩
abbrev main_v85 : Ref sig .tc := ⟨.hbm, 324, rfl⟩
abbrev main_v86 : Ref sig .tc := ⟨.hbm, 325, rfl⟩
abbrev main_v87 : Ref sig .tc := ⟨.hbm, 326, rfl⟩
abbrev main_c_12 : Ref sig .tc := ⟨.hbm, 327, rfl⟩
abbrev main_c_13 : Ref sig .tc := ⟨.hbm, 328, rfl⟩
abbrev main_call6_v0 : Ref sig .tc := ⟨.hbm, 329, rfl⟩
abbrev main_call6_v1 : Ref sig .tc := ⟨.hbm, 330, rfl⟩
abbrev main_v88 : Ref sig .tc := ⟨.hbm, 331, rfl⟩
abbrev main_c_14 : Ref sig .tc := ⟨.hbm, 332, rfl⟩
abbrev main_call7_v0 : Ref sig .tc := ⟨.hbm, 333, rfl⟩
abbrev main_v89 : Ref sig .tc := ⟨.hbm, 334, rfl⟩
abbrev main_v90 : Ref sig .tc := ⟨.hbm, 335, rfl⟩
abbrev main_v91 : Ref sig .tc := ⟨.hbm, 336, rfl⟩
abbrev main_v92 : Ref sig .tc := ⟨.hbm, 337, rfl⟩
abbrev main_v93 : Ref sig .tc := ⟨.hbm, 338, rfl⟩
abbrev main_v94 : Ref sig .tc := ⟨.hbm, 339, rfl⟩
abbrev main_v95 : Ref sig .tc := ⟨.hbm, 340, rfl⟩
abbrev main_v96 : Ref sig .tc := ⟨.hbm, 341, rfl⟩
abbrev main_v97 : Ref sig .tc := ⟨.hbm, 342, rfl⟩
abbrev main_call8_v0 : Ref sig .tc := ⟨.hbm, 343, rfl⟩
abbrev main_v98 : Ref sig .tc := ⟨.hbm, 344, rfl⟩
abbrev main_v99 : Ref sig .tc := ⟨.hbm, 345, rfl⟩
abbrev main_v100 : Ref sig .tc := ⟨.hbm, 346, rfl⟩
abbrev main_v101 : Ref sig .tc := ⟨.hbm, 347, rfl⟩
abbrev main_v102 : Ref sig .tc := ⟨.hbm, 348, rfl⟩
abbrev main_v103 : Ref sig .tc := ⟨.hbm, 349, rfl⟩
abbrev main_v104 : Ref sig .tc := ⟨.hbm, 350, rfl⟩
abbrev main_v105 : Ref sig .tc := ⟨.hbm, 351, rfl⟩
abbrev main_v106 : Ref sig .tc := ⟨.hbm, 352, rfl⟩
abbrev main_v107 : Ref sig .tc := ⟨.hbm, 353, rfl⟩
abbrev main_v108 : Ref sig .tc := ⟨.hbm, 354, rfl⟩
abbrev main_v109 : Ref sig .tc := ⟨.hbm, 355, rfl⟩
abbrev main_v110 : Ref sig .tc := ⟨.hbm, 356, rfl⟩
abbrev main_v111 : Ref sig .tc := ⟨.hbm, 357, rfl⟩
abbrev main_v112 : Ref sig .tc := ⟨.hbm, 358, rfl⟩
abbrev main_v113 : Ref sig .tc := ⟨.hbm, 359, rfl⟩
abbrev main_v114 : Ref sig .tc := ⟨.hbm, 360, rfl⟩
abbrev main_v115 : Ref sig .tc := ⟨.hbm, 361, rfl⟩
abbrev main_v116 : Ref sig .tc := ⟨.hbm, 362, rfl⟩
abbrev main_v117 : Ref sig .tc := ⟨.hbm, 363, rfl⟩
abbrev main_v118 : Ref sig .tc := ⟨.hbm, 364, rfl⟩
abbrev main_v119 : Ref sig .tc := ⟨.hbm, 365, rfl⟩
abbrev main_v120 : Ref sig .tc := ⟨.hbm, 366, rfl⟩
abbrev main_v121 : Ref sig .tc := ⟨.hbm, 367, rfl⟩
abbrev main_v122 : Ref sig .tc := ⟨.hbm, 368, rfl⟩
abbrev main_v123 : Ref sig .tc := ⟨.hbm, 369, rfl⟩
abbrev main_v124 : Ref sig .tc := ⟨.hbm, 370, rfl⟩
abbrev main_v125 : Ref sig .tc := ⟨.hbm, 371, rfl⟩
abbrev main_v126 : Ref sig .tc := ⟨.hbm, 372, rfl⟩
abbrev main_v127 : Ref sig .tc := ⟨.hbm, 373, rfl⟩
abbrev main_v128 : Ref sig .tc := ⟨.hbm, 374, rfl⟩
abbrev main_v129 : Ref sig .tc := ⟨.hbm, 375, rfl⟩
abbrev main_v130 : Ref sig .tc := ⟨.hbm, 376, rfl⟩
abbrev main_v131 : Ref sig .tc := ⟨.hbm, 377, rfl⟩
abbrev main_v132 : Ref sig .tc := ⟨.hbm, 378, rfl⟩
abbrev main_v133 : Ref sig .tc := ⟨.hbm, 379, rfl⟩
abbrev main_v134 : Ref sig .tc := ⟨.hbm, 380, rfl⟩
abbrev main_v135 : Ref sig .tc := ⟨.hbm, 381, rfl⟩
abbrev main_v136 : Ref sig .tc := ⟨.hbm, 382, rfl⟩
abbrev main_v137 : Ref sig .tc := ⟨.hbm, 383, rfl⟩
abbrev main_v138 : Ref sig .tc := ⟨.hbm, 384, rfl⟩
abbrev main_v139 : Ref sig .tc := ⟨.hbm, 385, rfl⟩
abbrev main_v140 : Ref sig .tc := ⟨.hbm, 386, rfl⟩
abbrev main_v141 : Ref sig .tc := ⟨.hbm, 387, rfl⟩
abbrev main_v142 : Ref sig .tc := ⟨.hbm, 388, rfl⟩
abbrev main_v143 : Ref sig .tc := ⟨.hbm, 389, rfl⟩
abbrev main_v144 : Ref sig .tc := ⟨.hbm, 390, rfl⟩
abbrev main_v145 : Ref sig .tc := ⟨.hbm, 391, rfl⟩
abbrev main_cst_15 : Ref sig .tc := ⟨.hbm, 392, rfl⟩
abbrev main_v146 : Ref sig .tc := ⟨.hbm, 393, rfl⟩
abbrev main_v147 : Ref sig .tc := ⟨.hbm, 394, rfl⟩
abbrev main_call9_v0 : Ref sig .tc := ⟨.hbm, 395, rfl⟩
abbrev main_v148 : Ref sig .tc := ⟨.hbm, 396, rfl⟩
abbrev main_v149 : Ref sig .tc := ⟨.hbm, 397, rfl⟩
abbrev main_cst_16 : Ref sig .tc := ⟨.hbm, 398, rfl⟩
abbrev main_v150 : Ref sig .tc := ⟨.hbm, 399, rfl⟩
abbrev main_cst_17 : Ref sig .tc := ⟨.hbm, 400, rfl⟩
abbrev main_v151 : Ref sig .tc := ⟨.hbm, 401, rfl⟩
abbrev main_v152 : Ref sig .tc := ⟨.hbm, 402, rfl⟩
abbrev main_cst_18 : Ref sig .tc := ⟨.hbm, 403, rfl⟩
abbrev main_v153 : Ref sig .tc := ⟨.hbm, 404, rfl⟩
abbrev main_v154 : Ref sig .tc := ⟨.hbm, 405, rfl⟩
abbrev main_cst_19 : Ref sig .tc := ⟨.hbm, 406, rfl⟩
abbrev main_v155 : Ref sig .tc := ⟨.hbm, 407, rfl⟩
abbrev main_v156 : Ref sig .tc := ⟨.hbm, 408, rfl⟩
abbrev main_v157 : Ref sig .tc := ⟨.hbm, 409, rfl⟩
abbrev main_v158 : Ref sig .tc := ⟨.hbm, 410, rfl⟩
abbrev main_v159 : Ref sig .tc := ⟨.hbm, 411, rfl⟩
abbrev main_v160 : Ref sig .tc := ⟨.hbm, 412, rfl⟩
abbrev main_cst_20 : Ref sig .tc := ⟨.hbm, 413, rfl⟩
abbrev main_v161 : Ref sig .tc := ⟨.hbm, 414, rfl⟩
abbrev main_v162 : Ref sig .tc := ⟨.hbm, 415, rfl⟩
abbrev main_cst_21 : Ref sig .tc := ⟨.hbm, 416, rfl⟩
abbrev main_v163 : Ref sig .tc := ⟨.hbm, 417, rfl⟩
abbrev main_cst_22 : Ref sig .tc := ⟨.hbm, 418, rfl⟩
abbrev main_v164 : Ref sig .tc := ⟨.hbm, 419, rfl⟩
abbrev main_v165 : Ref sig .tc := ⟨.hbm, 420, rfl⟩
abbrev main_cst_23 : Ref sig .tc := ⟨.hbm, 421, rfl⟩
abbrev main_v166 : Ref sig .tc := ⟨.hbm, 422, rfl⟩
abbrev main_v167 : Ref sig .tc := ⟨.hbm, 423, rfl⟩
abbrev main_cst_24 : Ref sig .tc := ⟨.hbm, 424, rfl⟩
abbrev main_v168 : Ref sig .tc := ⟨.hbm, 425, rfl⟩
abbrev main_v169 : Ref sig .tc := ⟨.hbm, 426, rfl⟩
abbrev main_v170 : Ref sig .tc := ⟨.hbm, 427, rfl⟩
abbrev main_v171 : Ref sig .tc := ⟨.hbm, 428, rfl⟩
abbrev main_v172 : Ref sig .tc := ⟨.hbm, 429, rfl⟩
abbrev main_v173 : Ref sig .tc := ⟨.hbm, 430, rfl⟩
abbrev main_cst_25 : Ref sig .tc := ⟨.hbm, 431, rfl⟩
abbrev main_v174 : Ref sig .tc := ⟨.hbm, 432, rfl⟩
abbrev main_v175 : Ref sig .tc := ⟨.hbm, 433, rfl⟩
abbrev main_v176 : Ref sig .tc := ⟨.hbm, 434, rfl⟩
abbrev main_v177 : Ref sig .tc := ⟨.hbm, 435, rfl⟩
abbrev main_v178 : Ref sig .tc := ⟨.hbm, 436, rfl⟩
abbrev main_v179 : Ref sig .tc := ⟨.hbm, 437, rfl⟩

abbrev nD : Nat := 1
abbrev τ : Topo := Topo.v7x

variable {F : FTy → Type} [FloatOps F]

abbrev main_while0_count : Scf.Loop 32 := ⟨0#32, 4#32, 1#32⟩
-- ==== Proof.Corr.Block.lean ====
/- What one launch of the body computes: the same shifted exponentials and weighted average, for one tile of
   512 source points of one pair. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Corr

open Cert.KernelIdeal Cert.KernelIdeal.Gen Idealize.ShloMosaic Idealize.ShloMosaic.TcCoe Idealize.SL.Sem

/-- The tile's negated squared distances, as the body builds them. -/
def dist (q : FVec Ideal S512x64 .f32) (k : FVec Ideal S64x2048 .f32) : FVec Ideal S512x2048 .f32 :=
  subf (subf (broadcastTo S512x2048 (subf (broadcast S512x1 (Scalar.ofBits .f32 0x00000000#32 : Ideal .f32)) (shapeCast S512x1 (multiReduction .add [1] S512 (mulf q q) 0x00000000#32 reduces_S512x64_S512 (.inl rfl) rfl) shapeCasts_S512_S512x1)) broadcasts_S512x1_S512x2048)
    (mulf (broadcast S512x2048 (Scalar.ofBits .f32 0xC0000000#32 : Ideal .f32)) (matmul dot_S512x64_S64x2048_S512x2048_1_0_0_1_n_n none q k (constant S512x2048 .f32 0x00000000#32))))
    (broadcastTo S512x2048 (shapeCast S1x2048 (multiReduction .add [0] S2048 (mulf k k) 0x00000000#32 reduces_S64x2048_S2048 (.inl rfl) rfl) shapeCasts_S2048_S1x2048) broadcasts_S1x2048_S512x2048)

/-- The largest score of each row of the tile. -/
def rowMax (D : FVec Ideal S512x2048 .f32) : FVec Ideal S512 .f32 :=
  multiReduction .maximumf [1] S512 D 0xFF800000#32 reduces_S512x2048_S512 (.inl rfl) rfl

/-- The exponentials of the tile's scores, each row shifted by its entry of `M`. -/
def shifted (D : FVec Ideal S512x2048 .f32) (M : FVec Ideal S512 .f32) : FVec Ideal S512x2048 .f32 :=
  exp (subf D (broadcastTo S512x2048 (shapeCast S512x1 M shapeCasts_S512_S512x1) broadcasts_S512x1_S512x2048))

/-- The points averaged with the weights `E`, each row of weights divided by its sum. -/
def weigh (x : FVec Ideal S3x2048 .f32) (E : FVec Ideal S512x2048 .f32) : FVec Ideal S3x512 .f32 :=
  matmul dot_S3x2048_S512x2048_S3x512_1_1_0_0_n_n none x (divf E (broadcastTo S512x2048 (shapeCast S512x1 (multiReduction .add [1] S512 E 0x00000000#32 reduces_S512x2048_S512 (.inl rfl) rfl) shapeCasts_S512_S512x1) broadcasts_S512x1_S512x2048)) (constant S3x512 .f32 0x00000000#32)

/-- The body's stored value is these steps in turn. -/
theorem pay_eq (q : Vec Ideal S1x512x64 .f32) (k : Vec Ideal S1x64x2048 .f32) (x : Vec Ideal S1x3x2048 .f32) :
    k0_pay1 q k x = shapeCast S1x3x512 (weigh (shapeCast S3x2048 x shapeCasts_S1x3x2048_S3x2048)
      (shifted (dist (shapeCast S512x64 q shapeCasts_S1x512x64_S512x64) (shapeCast S64x2048 k shapeCasts_S1x64x2048_S64x2048))
        (rowMax (dist (shapeCast S512x64 q shapeCasts_S1x512x64_S512x64) (shapeCast S64x2048 k shapeCasts_S1x64x2048_S64x2048)))))
      shapeCasts_S3x512_S1x3x512 := rfl

/-- The tile's negated squared distance, element by element. -/
theorem dist_at (q : FVec Ideal S512x64 .f32) (k : FVec Ideal S64x2048 .f32) (i : Fin 512) (j : Fin 2048) :
    dist q k (ix2 i j) = -(∑ e, q (ix2 i e) * q (ix2 i e)) - Ideal.ofBits FTy.f32 0xC0000000#32 * ∑ e, q (ix2 i e) * k (ix2 e j) -
      ∑ e, k (ix2 e j) * k (ix2 e j) := by
  pointwise [dist]
  rw [zero_sub]

/-- Reducing the second of two axes with the maximum is the fold of `max` along that axis, at any size. -/
theorem reduceMax_at {n0 n1 : Nat} (D : FVec Ideal ⟨2, ![n0, n1]⟩ .f32)
    (h : (⟨2, ![n0, n1]⟩ : Shape).Reduces [1] ⟨1, ![n0]⟩) (i : Fin n0) :
    multiReduction .maximumf [1] ⟨1, ![n0]⟩ D 0xFF800000#32 h (.inl rfl) rfl (ix1 i)
      = Finset.univ.fold max (Ideal.ofBits FTy.f32 0xFF800000#32) (fun x : Fin n1 => D (ix2 i x)) := by
  pointwise []

/-- The row maximum, element by element. -/
theorem rowMax_at (D : FVec Ideal S512x2048 .f32) (i : Fin 512) :
    rowMax D (ix1 i) = Finset.univ.fold max (Ideal.ofBits FTy.f32 0xFF800000#32) (fun x => D (ix2 i x)) :=
  reduceMax_at D reduces_S512x2048_S512 i

/-- A shifted score's exponential, element by element. -/
theorem shifted_at (D : FVec Ideal S512x2048 .f32) (M : FVec Ideal S512 .f32) (i : Fin 512) (j : Fin 2048) :
    shifted D M (ix2 i j) = Ideal.exp (D (ix2 i j) - M (ix1 i)) := by
  pointwise [shifted]

/-- The weighted average, element by element. -/
theorem weigh_at (x : FVec Ideal S3x2048 .f32) (E : FVec Ideal S512x2048 .f32) (d : Fin 3) (i : Fin 512) :
    weigh x E (ix2 d i) = ∑ j, x (ix2 d j) * Ideal.div (E (ix2 i j)) (∑ j, E (ix2 i j)) := by
  pointwise [weigh]

/-- What the body stores, element by element, over any function `D` that gives the tile's scores. -/
theorem pay_at (q : Vec Ideal S1x512x64 .f32) (k : Vec Ideal S1x64x2048 .f32) (x : Vec Ideal S1x3x2048 .f32)
    (D : Fin 512 → Fin 2048 → EReal)
    (hD : ∀ i j, D i j = -(∑ e : Fin 64, q (ix3 0 i e) * q (ix3 0 i e)) - Ideal.ofBits FTy.f32 0xC0000000#32 * (∑ e : Fin 64, q (ix3 0 i e) * k (ix3 0 e j)) -
      ∑ e : Fin 64, k (ix3 0 e j) * k (ix3 0 e j)) (d : Fin 3) (i : Fin 512) :
    k0_pay1 q k x (ix3 0 d i) = ∑ j : Fin 2048, x (ix3 0 d j)
      * Ideal.div (Ideal.exp (D i j - Finset.univ.fold max (Ideal.ofBits FTy.f32 0xFF800000#32) (D i)))
        (∑ j : Fin 2048, Ideal.exp (D i j - Finset.univ.fold max (Ideal.ofBits FTy.f32 0xFF800000#32) (D i))) := by
  have hq : ∀ i e, shapeCast S512x64 q shapeCasts_S1x512x64_S512x64 (ix2 i e) = q (ix3 0 i e) := fun i e => by pointwise []
  have hk : ∀ e j, shapeCast S64x2048 k shapeCasts_S1x64x2048_S64x2048 (ix2 e j) = k (ix3 0 e j) := fun e j => by pointwise []
  have hx : ∀ d j, shapeCast S3x2048 x shapeCasts_S1x3x2048_S3x2048 (ix2 d j) = x (ix3 0 d j) := fun d j => by pointwise []
  have hd : ∀ i j, dist (shapeCast S512x64 q shapeCasts_S1x512x64_S512x64) (shapeCast S64x2048 k shapeCasts_S1x64x2048_S64x2048) (ix2 i j) = D i j := by
    intro i j
    rw [dist_at, hD]
    simp only [hq, hk]
  have hs : ∀ (y : FVec Ideal S3x512 .f32), shapeCast S1x3x512 y shapeCasts_S3x512_S1x3x512 (ix3 0 d i) = y (ix2 d i) := fun y => by pointwise []
  rw [pay_eq, hs, weigh_at]
  simp only [shifted_at, rowMax_at, hd, hx]

end Cert.KernelIdeal.Corr

end
-- ==== Proof.Corr.Reference.lean ====
/- What the reference computes, read element by element: the squared distances between the two
   embeddings (negated), their softmax along each row, and the points weighted by it. -/
module

public import proofs.«01_k».proof.Proof.Gen.ReferenceIdeal.Run
public import Idealize.ShloMosaic.Lib.Pointwise

@[expose] public section

set_option maxRecDepth 16384

noncomputable section

namespace Cert.ReferenceIdeal.Corr

open Cert.ReferenceIdeal Cert.ReferenceIdeal.Gen Idealize.ShloMosaic Idealize.ShloMosaic.TcCoe Idealize.SL.Sem

/-- The points as coordinate rows: one 3 × 2048 matrix per pair. -/
def points (T : FVec Ideal S2x2x2048x3 .f32) : FVec Ideal S4x3x2048 .f32 :=
  shapeCast S4x3x2048 (transpose S2x2x3x2048 [0, 1, 3, 2] T transposes_S2x2x2048x3_S2x2x3x2048_0_1_3_2) shapeCasts_S2x2x3x2048_S4x3x2048

/-- The source's embedding, repeated for each of its targets. -/
def srcEmb (Q : FVec Ideal S2x1x64x2048x1 .f32) : FVec Ideal S4x64x2048 .f32 :=
  shapeCast S4x64x2048 (shapeCast S2x2x64x2048 (broadcastInDim S1x2x2x1x1x64x1x2048 ![0, 1, 2, 3, 4, 5, 6, 7] bcast_S1x2x1x1x1x64x1x2048_S1x2x2x1x1x64x1x2048_0_1_2_3_4_5_6_7 (shapeCast S1x2x1x1x1x64x1x2048 (shapeCast S2x1x64x2048 Q shapeCasts_S2x1x64x2048x1_S2x1x64x2048) shapeCasts_S2x1x64x2048_S1x2x1x1x1x64x1x2048)) shapeCasts_S1x2x2x1x1x64x1x2048_S2x2x64x2048) shapeCasts_S2x2x64x2048_S4x64x2048

/-- The target's embedding. -/
def tgtEmb (K : FVec Ideal S2x2x64x2048x1 .f32) : FVec Ideal S4x64x2048 .f32 :=
  shapeCast S4x64x2048 (shapeCast S2x2x64x2048 K shapeCasts_S2x2x64x2048x1_S2x2x64x2048) shapeCasts_S2x2x64x2048_S4x64x2048

/-- The negated squared distances of the embeddings `A` and `B`, as the reference builds them. -/
def dist (A B : FVec Ideal S4x64x2048 .f32) : FVec Ideal S4x2048x2048 .f32 :=
  subf (subf (broadcastInDim S4x2048x2048 ![0, 1, 2] bcast_S4x2048x1_S4x2048x2048_0_1_2 (Host.negf (transpose S4x2048x1 [0, 2, 1] (broadcastInDim S4x1x2048 ![0, 2] bcast_S4x2048_S4x1x2048_0_2 (Host.reduceAdd (mulf A A) (constant S_ .f32 0x00000000#32) reducesTo_S4x64x2048_S4x2048_d1 h_S_)) transposes_S4x1x2048_S4x2048x1_0_2_1)))
    (mulf (broadcastInDim S4x2048x2048 ![] bcast_S_S4x2048x2048 (constant S_ .f32 0xC0000000#32)) (Host.dotGeneral dot_S4x2048x64_S4x64x2048_S4x2048x2048_2_1_1_2_0_0 none (transpose S4x2048x64 [0, 2, 1] A transposes_S4x64x2048_S4x2048x64_0_2_1) B)))
    (broadcastInDim S4x2048x2048 ![0, 1, 2] bcast_S4x1x2048_S4x2048x2048_0_1_2 (broadcastInDim S4x1x2048 ![0, 2] bcast_S4x2048_S4x1x2048_0_2 (Host.reduceAdd (mulf B B) (constant S_ .f32 0x00000000#32) reducesTo_S4x64x2048_S4x2048_d1 h_S_)))

/-- The fold of the maximum along each row of `D`, from the word for minus infinity. -/
def rowFold (D : FVec Ideal S4x2048x2048 .f32) : FVec Ideal S4x2048 .f32 :=
  Host.reduce FloatOps.maximumf D (constant S_ .f32 0xFF800000#32) reducesTo_S4x2048x2048_S4x2048_d2 h_S_

/-- The maximum of each entry of `R` and the word for minus infinity. -/
def capped (R : FVec Ideal S4x2048 .f32) : FVec Ideal S4x2048 .f32 :=
  maximumf (broadcastInDim S4x2048 ![] bcast_S_S4x2048 (constant S_ .f32 0xFF800000#32)) R

/-- The largest score of each row of `D`, no smaller than the reduction's starting value. -/
def rowMax (D : FVec Ideal S4x2048x2048 .f32) : FVec Ideal S4x2048 .f32 :=
  capped (rowFold D)

/-- The exponentials of the scores `D`, the scores of row `i` shifted by `M i`. -/
def shifted (D : FVec Ideal S4x2048x2048 .f32) (M : FVec Ideal S4x2048 .f32) : FVec Ideal S4x2048x2048 .f32 :=
  Host.exp (subf D (broadcastInDim S4x2048x2048 ![0, 1, 2] bcast_S4x2048x1_S4x2048x2048_0_1_2 (broadcastInDim S4x2048x1 ![0, 1] bcast_S4x2048_S4x2048x1_0_1 M)))

/-- The exponentials of the scores `D`, each row shifted by its largest score. -/
def expo (D : FVec Ideal S4x2048x2048 .f32) : FVec Ideal S4x2048x2048 .f32 :=
  shifted D (rowMax D)

/-- The points `X` averaged with the weights `E`, each row of weights divided by its sum. -/
def weigh (X : FVec Ideal S4x3x2048 .f32) (E : FVec Ideal S4x2048x2048 .f32) : FVec Ideal S4x3x2048 .f32 :=
  Host.dotGeneral dot_S4x3x2048_S4x2048x2048_S4x3x2048_2_1_1_2_0_0 none X (transpose S4x2048x2048 [0, 2, 1] (Host.divf E (broadcastInDim S4x2048x2048 ![0, 1, 2] bcast_S4x2048x1_S4x2048x2048_0_1_2 (broadcastInDim S4x2048x1 ![0, 1] bcast_S4x2048_S4x2048x1_0_1 (Host.reduceAdd E (constant S_ .f32 0x00000000#32) reducesTo_S4x2048x2048_S4x2048_d2 h_S_)))) transposes_S4x2048x2048_S4x2048x2048_0_2_1)

/-- The outlier mask, false everywhere, applied to `X`. -/
def masked (X : FVec Ideal S4x3x2048 .f32) : FVec Ideal S4x3x2048 .f32 :=
  select (broadcastInDim S4x3x2048 ![0, 1, 2] bcast_S4x1x2048_S4x3x2048_0_1_2 (shapeCast S4x1x2048 (broadcastInDim S4x2048x1 ![] bcast_S_S4x2048x1 (constantI S_ 1 0#1)) shapeCasts_S4x2048x1_S4x1x2048)) (broadcastInDim S4x3x2048 ![] bcast_S_S4x3x2048 (id (constant (F := Ideal) S_ .f32 0x00000000#32))) X

/-- The reference's second result is the masked weighted average of the target's points. -/
theorem result_eq (m : (ℓ : Loc nD τ sig) → Buf (Elt Ideal) ℓ) (c : Dev nD) :
    Cert.ReferenceIdeal.Value.res_out1 m c = masked (weigh (points (m ((c.tc : Thread nD τ).loc main_arg1)))
      (expo (dist (srcEmb (m ((c.tc : Thread nD τ).loc main_arg2))) (tgtEmb (m ((c.tc : Thread nD τ).loc main_arg3)))))) := by
  unfold Cert.ReferenceIdeal.Value.res_out1 Cert.ReferenceIdeal.Value.res_main_v44
  rfl

/-- A mask that is false everywhere leaves an array as it is. -/
theorem masked_eq (X : FVec Ideal S4x3x2048 .f32) : masked X = X := by
  funext i
  idx_vars i
  pointwise [masked]

/-- The negated squared distance of row `i` of `A` and row `j` of `B`, element by element. -/
theorem dist_at (A B : FVec Ideal S4x64x2048 .f32) (b : Fin 4) (i j : Fin 2048) :
    dist A B (ix3 b i j) = -(∑ x, A (ix3 b x i) * A (ix3 b x i)) - Ideal.ofBits FTy.f32 0xC0000000#32 * ∑ x, A (ix3 b x i) * B (ix3 b x j) -
      ∑ x, B (ix3 b x j) * B (ix3 b x j) := by
  pointwise [dist]

/-- Reducing the last of three axes with the maximum is the fold of `max` along that axis, at any size. -/
theorem reduceMax_at {n0 n1 n2 : Nat} {u : Shape} (D : FVec Ideal ⟨3, ![n0, n1, n2]⟩ .f32) (z : FVec Ideal u .f32)
    (h : (⟨3, ![n0, n1, n2]⟩ : Shape).ReducesTo [2] ⟨2, ![n0, n1]⟩) (hu : 0 < u.numel) (b : Fin n0) (i : Fin n1) :
    Host.reduce FloatOps.maximumf D z h hu (ix2 b i)
      = Finset.univ.fold max (z (Shape.Idx.first hu)) (fun x : Fin n2 => D (ix3 b i x)) := by
  pointwise []

/-- The fold of the maximum along row `i`, element by element. -/
theorem rowFold_at (D : FVec Ideal S4x2048x2048 .f32) (b : Fin 4) (i : Fin 2048) :
    rowFold D (ix2 b i) = Finset.univ.fold max (Ideal.ofBits FTy.f32 0xFF800000#32) (fun x => D (ix3 b i x)) :=
  reduceMax_at D _ reducesTo_S4x2048x2048_S4x2048_d2 h_S_ b i

/-- A fold of `max` is at least its starting value. -/
theorem max_fold {n : Nat} (z : EReal) (f : Fin n → EReal) :
    max z (Finset.univ.fold max z f) = Finset.univ.fold max z f :=
  max_eq_right ((Finset.le_fold_max _).2 (Or.inl le_rfl))

/-- The maximum with minus infinity, element by element. -/
theorem capped_at (R : FVec Ideal S4x2048 .f32) (b : Fin 4) (i : Fin 2048) :
    capped R (ix2 b i) = max (Ideal.ofBits FTy.f32 0xFF800000#32) (R (ix2 b i)) := by
  pointwise [capped]

/-- The row maximum is the fold of `max` along the row: the starting value is already in the fold. -/
theorem rowMax_at (D : FVec Ideal S4x2048x2048 .f32) (b : Fin 4) (i : Fin 2048) :
    rowMax D (ix2 b i) = Finset.univ.fold max (Ideal.ofBits FTy.f32 0xFF800000#32) (fun x => D (ix3 b i x)) := by
  rw [rowMax, capped_at, rowFold_at, max_fold]

/-- A shifted score's exponential, element by element. -/
theorem shifted_at (D : FVec Ideal S4x2048x2048 .f32) (M : FVec Ideal S4x2048 .f32) (b : Fin 4) (i j : Fin 2048) :
    shifted D M (ix3 b i j) = Ideal.exp (D (ix3 b i j) - M (ix2 b i)) := by
  pointwise [shifted]

/-- The weight of column `j` in row `i` before it is divided by the row's sum. -/
theorem expo_at (D : FVec Ideal S4x2048x2048 .f32) (b : Fin 4) (i j : Fin 2048) :
    expo D (ix3 b i j) = Ideal.exp (D (ix3 b i j) -
      Finset.univ.fold max (Ideal.ofBits FTy.f32 0xFF800000#32) (fun x => D (ix3 b i x))) := by
  rw [expo, shifted_at, rowMax_at]

/-- The weighted average, element by element. -/
theorem weigh_at (X : FVec Ideal S4x3x2048 .f32) (E : FVec Ideal S4x2048x2048 .f32) (b : Fin 4) (d : Fin 3) (i : Fin 2048) :
    weigh X E (ix3 b d i) = ∑ x, X (ix3 b d x) * Ideal.div (E (ix3 b i x)) (∑ x, E (ix3 b i x)) := by
  pointwise [weigh]

/-- The target's embedding at pair `b` is the argument at source `b / 2` and target `b % 2`. -/
theorem tgtEmb_at (K : FVec Ideal S2x2x64x2048x1 .f32) (b : Fin 4) (d : Fin 64) (i : Fin 2048) :
    tgtEmb K (ix3 b d i) = K (ix5 ⟨b.val / 2, by omega⟩ ⟨b.val % 2, by omega⟩ d i 0) := by
  pointwise [tgtEmb]

/-- The source's embedding at pair `b` is the argument at source `b / 2`. -/
theorem srcEmb_at (Q : FVec Ideal S2x1x64x2048x1 .f32) (b : Fin 4) (d : Fin 64) (i : Fin 2048) :
    srcEmb Q (ix3 b d i) = Q (ix5 ⟨b.val / 2, by omega⟩ 0 d i 0) := by
  pointwise [srcEmb]

/-- The points of pair `b`, element by element. -/
theorem points_at (T : FVec Ideal S2x2x2048x3 .f32) (b : Fin 4) (d : Fin 3) (i : Fin 2048) :
    points T (ix3 b d i) = T (ix4 ⟨b.val / 2, by omega⟩ ⟨b.val % 2, by omega⟩ i d) := by
  pointwise [points]

end Cert.ReferenceIdeal.Corr

end
-- ==== Proof.Corr.Array.lean ====
/- The kernel's output array, block by block, is the reference's weighted average. -/
module

public import proofs.«01_k».proof.Proof.Corr.Block
public import proofs.«01_k».proof.Proof.Corr.Reference

@[expose] public section

set_option maxRecDepth 16384

noncomputable section

namespace Cert.KernelIdeal.Corr

open Cert.KernelIdeal Cert.KernelIdeal.Gen Idealize.ShloMosaic Idealize.ShloMosaic.TcCoe Idealize.SL.Sem
open Idealize.ShloMosaic.Pipeline (Dat)

/-- The weighted average the reference returns, as a function of the three arguments it reads. -/
def corr (T : FVec Ideal S2x2x2048x3 .f32) (Q : FVec Ideal S2x1x64x2048x1 .f32) (K : FVec Ideal S2x2x64x2048x1 .f32) :
    FVec Ideal S4x3x2048 .f32 :=
  Cert.ReferenceIdeal.Corr.weigh (Cert.ReferenceIdeal.Corr.points T) (Cert.ReferenceIdeal.Corr.expo
    (Cert.ReferenceIdeal.Corr.dist (Cert.ReferenceIdeal.Corr.srcEmb Q) (Cert.ReferenceIdeal.Corr.tgtEmb K)))

variable (m : (ℓ : Loc nD τ sig) → Buf (Elt Ideal) ℓ)

/-- Where each window's block starts, at every grid point. -/
theorem idx : ∀ t : Fin cfg0.N, win0_0.index t = ![t.val / 8, t.val % 4, 0] ∧ win0_1.index t = ![t.val / 4, 0, 0]
    ∧ win0_2.index t = ![t.val / 4, 0, 0] ∧ win0_3.index t = ![t.val / 4, 0, t.val % 4] :=
  (by decide +kernel : ∀ t : Fin grid0.N, _)

/-- There are sixteen grid points. -/
theorem lt16 (t : Fin cfg0.N) : t.val < 16 :=
  Nat.lt_of_lt_of_eq t.isLt (by decide : cfg0.N = 16)

/-- The pair that grid point `t` works on. -/
def pr (t : Fin cfg0.N) : Fin 4 := ⟨t.val / 4, by have := lt16 t; omega⟩

/-- The source point that is row `i` of grid point `t`'s tile. -/
def row (t : Fin cfg0.N) (i : Fin 512) : Fin 2048 := ⟨t.val % 4 * 512 + i.val, by have := i.isLt; omega⟩

/-- The query tile at `t` is that pair's source embedding, transposed, at the tile's rows. -/
theorem q_at (c : Dev nD) (t : Fin cfg0.N) (i : Fin 512) (e : Fin 64) :
    iblk m c 0 t (ix3 0 i e) = Cert.ReferenceIdeal.Corr.srcEmb (m ((c.tc : Thread nD τ).loc main_arg2)) (ix3 (pr t) e (row t i)) := by
  have ht := lt16 t
  rw [Cert.ReferenceIdeal.Corr.srcEmb_at]
  blk_point [iblk, V, idx t, pr, row]

/-- The key block at `t` is that pair's target embedding. -/
theorem k_at (c : Dev nD) (t : Fin cfg0.N) (e : Fin 64) (j : Fin 2048) :
    iblk m c 1 t (ix3 0 e j) = Cert.ReferenceIdeal.Corr.tgtEmb (m ((c.tc : Thread nD τ).loc main_arg3)) (ix3 (pr t) e j) := by
  have ht := lt16 t
  rw [Cert.ReferenceIdeal.Corr.tgtEmb_at]
  blk_point [iblk, V, idx t, pr]

/-- The point block at `t` is that pair's target points. -/
theorem x_at (c : Dev nD) (t : Fin cfg0.N) (d : Fin 3) (j : Fin 2048) :
    iblk m c 2 t (ix3 0 d j) = Cert.ReferenceIdeal.Corr.points (m ((c.tc : Thread nD τ).loc main_arg1)) (ix3 (pr t) d j) := by
  have ht := lt16 t
  rw [Cert.ReferenceIdeal.Corr.points_at]
  blk_point [iblk, V, idx t, pr]

/-- Where the output block of `t` puts its element `(y, d, i)`. -/
theorem out_at (t : Fin cfg0.N) (y : Fin 1) (d : Fin 3) (i : Fin 512) :
    ((View.whole main_v9).slice (win0_3.rect t)).emb (ix3 y d i) = ix3 (pr t) d (row t i) := by
  blk_ext [idx t, pr, row]

/-- What grid point `t` stores is the reference's average at the tile's rows. -/
theorem point (c : Dev nD) (t : Fin cfg0.N) (d : Fin 3) (i : Fin 512) :
    k0_pay1 (iblk m c 0 t) (iblk m c 1 t) (iblk m c 2 t) (ix3 0 d i)
      = corr (m ((c.tc : Thread nD τ).loc main_arg1)) (m ((c.tc : Thread nD τ).loc main_arg2))
          (m ((c.tc : Thread nD τ).loc main_arg3)) (ix3 (pr t) d (row t i)) := by
  rw [pay_at _ _ _ (fun i j => Cert.ReferenceIdeal.Corr.dist (Cert.ReferenceIdeal.Corr.srcEmb (m ((c.tc : Thread nD τ).loc main_arg2)))
    (Cert.ReferenceIdeal.Corr.tgtEmb (m ((c.tc : Thread nD τ).loc main_arg3))) (ix3 (pr t) (row t i) j)) (fun i j => by
      rw [Cert.ReferenceIdeal.Corr.dist_at]
      simp only [q_at, k_at])]
  rw [corr, Cert.ReferenceIdeal.Corr.weigh_at]
  simp only [Cert.ReferenceIdeal.Corr.expo_at, x_at]

/-- The kernel's output array is the reference's average. -/
theorem final (c : Dev nD) : (dats m 0 c).arrAt 3 (cfgs 0).N = corr (m ((c.tc : Thread nD τ).loc main_arg1))
    (m ((c.tc : Thread nD τ).loc main_arg2)) (m ((c.tc : Thread nD τ).loc main_arg3)) := by
  refine (dats m 0 c).arrAt_eq_of_covers 3 _ (by decide +kernel) fun t _ y => ?_
  blk_simp
  rw [after0_3]
  frame_out
  idx_vars y
  obtain rfl := Subsingleton.elim y0 0
  exact (point m c t y1 y2).trans (congrArg _ (out_at t 0 y1 y2).symm)

end Cert.KernelIdeal.Corr

end
-- ==== Proof.Corr.Agree.lean ====
/- The two programs' results agree: the source points and the weighted averages. -/
module

public import proofs.«01_k».proof.Defs
public import proofs.«01_k».proof.Proof.Corr.Array
public import Idealize.ShloMosaic.Lib.Claim

@[expose] public section

set_option maxRecDepth 16384

noncomputable section

namespace Cert.Proof

open Idealize.ShloMosaic Idealize.ShloMosaic.TcCoe Idealize.SL.Sem

/-- The reference runs to the end and leaves its arguments and counters alone. -/
theorem reference_frame : Cert.quiescent_ReferenceIdeal := by
  intro m ρ _
  exact (θ_run Cert.ReferenceIdeal.defs _ _).mono
    (fun r h => ⟨fun c => (h c).2.2, sem_eq_zero_of_no_sems (by decide) r.2⟩)
    (Cert.ReferenceIdeal.Value.run (F := Ideal) m ρ)

/-- The kernel's source points, when its launch begins, are the reference's coordinate rows. -/
theorem source_points (m : (ℓ : Loc Cert.KernelIdeal.nD Cert.KernelIdeal.τ Cert.KernelIdeal.sig) → Buf (Elt Ideal) ℓ)
    (c : Dev Cert.KernelIdeal.nD) :
    Cert.KernelIdeal.Gen.V m c Cert.KernelIdeal.main_v1
      = Cert.ReferenceIdeal.Corr.points (m ((c.tc : Thread Cert.KernelIdeal.nD Cert.KernelIdeal.τ).loc Cert.KernelIdeal.main_arg0)) := by
  entry_read
  rfl

/-- At equal arguments the kernel's results are the reference's. -/
theorem agree : Cert.algebraic_KernelIdeal_ReferenceIdeal := by
  pair_intro
  · run_from Cert.KernelIdeal.Gen.run_main m g
  · refine (θ_run Cert.ReferenceIdeal.defs _ _).mono (fun r h c => ⟨(h c).1.trans ?_, (h c).2.1.trans ?_, (h c).2.2⟩)
      (Cert.ReferenceIdeal.Value.run (F := Ideal) m' g')
    · refine (Cert.ReferenceIdeal.Corr.masked_eq (Cert.ReferenceIdeal.Corr.points _)).trans ?_
      rw [(hagree c).1]
      exact (source_points m c).symm
    · refine (Cert.ReferenceIdeal.Corr.result_eq m' c).trans ?_
      rw [Cert.ReferenceIdeal.Corr.masked_eq, (hagree c).2.1, (hagree c).2.2.1, (hagree c).2.2.2.1]
      exact (Cert.KernelIdeal.Corr.final m c).symm

end Cert.Proof

end
-- ==== Proof.Pose.Kernel2IdealRun.lean ====
/- The pose call's body, run once on whole buffers, and the frame of `Kernel2Ideal`: what one trip of its loop
   makes of the matrices it carries, what the body leaves in the two output buffers, and the run of @main over them. -/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel2Ideal.Pose

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One trip of the loop -/

/-- The carried matrices after the first rotation: the columns 0 and 1 turned. -/
def first (A V : FVec F S4x3x3 .f32) : FVec F S4x3x3 .f32 × FVec F S4x3x3 .f32 × FVec F S4x3x1 .f32 :=
  let p := k0_pay2 A; let q := k0_pay3 A; let v := k0_pay4 V; let w := k0_pay5 V
  let c := k0_pay7 A; let s := k0_pay8 A; let x := k0_pay9 A; let y := k0_pay10 A
  (k0_pay11 A p q c s x y, k0_pay12 V v w c s, k0_pay13 v w c s)

/-- The carried rows after the second rotation, the new first column of the other matrix beside them. -/
def second (A₁ V₁ : FVec F S4x3x3 .f32) (z : FVec F S4x3x1 .f32) :
    FVec F S4x3x3 .f32 × FVec F S4x3x1 .f32 × FVec F S4x3x1 .f32 :=
  let p := k0_pay15 A₁; let q := k0_pay16 A₁; let v := k0_pay17 V₁ z; let w := k0_pay18 V₁ z
  let t := k0_pay21 A₁; let b := k0_pay22 A₁
  (k0_pay27 A₁ p q t b, k0_pay26 v w t b, k0_pay28 v w t b)

/-- The second rotation's other matrix, put together from its pieces. -/
def secondV (A₁ V₁ : FVec F S4x3x3 .f32) (z : FVec F S4x3x1 .f32) : FVec F S4x3x3 .f32 :=
  k0_pay29 (k0_pay14 V₁ z) (k0_pay18 V₁ z) (second A₁ V₁ z).2.1 (second A₁ V₁ z).2.2
    (iota .tc S1x1x3 32 [2] iota_S1x1x3_d2_w32) 0#32

/-- One trip: the three rotations. -/
def trip (acc : FVec F S4x3x3 .f32 × FVec F S4x3x3 .f32) : FVec F S4x3x3 .f32 × FVec F S4x3x3 .f32 :=
  let f := first acc.1 acc.2
  let g := second f.1 f.2.1 f.2.2
  let V := secondV f.1 f.2.1 f.2.2
  let old := k0_pay14 f.2.1 f.2.2
  let w := k0_pay18 f.2.1 f.2.2
  let i := iota .tc S1x1x3 32 [2] iota_S1x1x3_d2_w32
  let p := k0_pay30 g.1; let q := k0_pay31 g.1
  let v := k0_pay32 old w g.2.1 g.2.2 i 0#32; let u := k0_pay33 old w g.2.1 g.2.2 i 0#32
  let a := k0_pay35 g.1; let b := k0_pay36 g.1; let c := k0_pay37 g.1
  let d := k0_pay38 (F := F); let e := k0_pay39 (F := F)
  (k0_pay56 (k0_pay45 g.1 p q a b c d e) (k0_pay46 p q a b c d e) k0_pay47,
    k0_pay57 V v u (k0_pay43 v u a b c d e) (k0_pay44 v u a b c d e))

set_option maxHeartbeats 4000000 in
/-- The loop's region issues nothing: a trip returns `trip` of what it carries. -/
theorem body_eq (i : grid0.Coords) (arg1 : Memref sig .tc .vmem S4x3x2048 .f32) (harg1 : arg1.IsWhole) (arg2 : Memref sig .tc .vmem S4x3x2048 .f32) (harg2 : arg2.IsWhole) (arg3 : Memref sig .tc .vmem S4x3x3 .f32) (harg3 : arg3.IsWhole) (arg4 : Memref sig .tc .vmem S4x3x1 .f32) (harg4 : arg4.IsWhole) (v86 : FVec F S4x3x3 .f32) (v87 : IVec S1x3x3 32)
    (k : Fin k0_t1_loop.trips) (acc : FVec F S4x3x3 .f32 × FVec F S4x3x3 .f32) :
    k0_t1_body (F := F) i arg1 harg1 arg2 harg2 arg3 harg3 arg4 harg4 v86 v87 k acc = .ret (trip acc) := by
  unfold k0_t1_body
  simp only [k0_part1_eq_skeleton, k0_part2_eq_skeleton, k0_part3_eq_skeleton, k0_part4_eq_skeleton,
    k0_part5_eq_skeleton, k0_part6_eq_skeleton]
  rfl

/-- So the loop returns the fold of `trip` over its trips. -/
theorem loop_eq (i : grid0.Coords) (arg1 : Memref sig .tc .vmem S4x3x2048 .f32) (harg1 : arg1.IsWhole) (arg2 : Memref sig .tc .vmem S4x3x2048 .f32) (harg2 : arg2.IsWhole) (arg3 : Memref sig .tc .vmem S4x3x3 .f32) (harg3 : arg3.IsWhole) (arg4 : Memref sig .tc .vmem S4x3x1 .f32) (harg4 : arg4.IsWhole) (v86 : FVec F S4x3x3 .f32) (v87 : IVec S1x3x3 32)
    (init : FVec F S4x3x3 .f32 × FVec F S4x3x3 .f32) :
    Scf.Loop.for k0_t1_loop k0_t1_ok init (k0_t1_body (F := F) i arg1 harg1 arg2 harg2 arg3 harg3 arg4 harg4 v86 v87)
      = .ret (Scf.fold (n := k0_t1_loop.trips) (fun _ => trip) init) :=
  Scf.for_pure _ _ _ _ init _ (fun _ => trip) (body_eq i arg1 harg1 arg2 harg2 arg3 harg3 arg4 harg4 v86 v87)

/-! ## What the body leaves in the output buffers -/

/-- The covariance the loop starts from. -/
def cov (x0 x1 : FVec F S4x3x2048 .f32) : FVec F S4x3x3 .f32 :=
  k0_pay54 (k0_pay50 x0) (k0_pay51 x1) (k0_pay52 x0 x1) (k0_pay53 x0 x1) (iota .tc S4x1x1 32 [0] iota_S4x1x1_d0_w32)

/-- The matrices after the loop. -/
def swept (x0 x1 : FVec F S4x3x2048 .f32) : FVec F S4x3x3 .f32 × FVec F S4x3x3 .f32 :=
  Scf.fold (n := k0_t1_loop.trips) (fun _ => trip) (cov x0 x1, k0_pay55 (iota .tc S1x3x3 32 [1] iota_S1x3x3_d1_w32))

/-- The rotation, from the covariance and the two matrices after the loop. -/
def turn (K A V : FVec F S4x3x3 .f32) : FVec F S4x3x3 .f32 :=
  k0_pay72 K (k0_pay60 A V)
    (k0_pay67 V (k0_pay59 A) (k0_pay60 A V) (k0_pay62 A) (k0_pay63 A) (k0_pay64 A) (k0_pay65 A) (k0_pay66 A))
    (k0_pay68 K) (k0_pay69 K) (k0_pay70 K) (k0_pay71 K)

/-- The rotation the body stores. -/
def rot (x0 x1 : FVec F S4x3x2048 .f32) : FVec F S4x3x3 .f32 :=
  turn (cov x0 x1) (swept x0 x1).1 (swept x0 x1).2

/-- The translation, from the two centroids and the rotation. -/
def shift (a b : FVec F S4x3x1 .f32) (R : FVec F S4x3x3 .f32) : FVec F S4x3x1 .f32 :=
  k0_pay1 a b R (k0_pay73 a) (k0_pay74 a) (iota .tc S1x1x3 32 [2] iota_S1x1x3_d2_w32) k0_pay75

/-- The translation the body stores. -/
def trans (x0 x1 : FVec F S4x3x2048 .f32) : FVec F S4x3x1 .f32 :=
  shift (k0_pay48 x0) (k0_pay49 x1) (rot x0 x1)

abbrev rIn : Rect S4x3x2048 := Rect.unit (s := S4x3x2048) ![0, 0, 0] S4x3x2048.size inb_S4x3x2048_S4x3x2048_0_0_0
abbrev rRot : Rect S4x3x3 := Rect.unit (s := S4x3x3) ![0, 0, 0] S4x3x3.size inb_S4x3x3_S4x3x3_0_0_0
abbrev rTrans : Rect S4x3x1 := Rect.unit (s := S4x3x1) ![0, 0, 0] S4x3x1.size inb_S4x3x1_S4x3x1_0_0_0

/-- The rotation's buffer after the body: the one store, over the whole buffer. -/
def out2 (x0 x1 : Vec F S4x3x2048 .f32) : Vec F S4x3x3 .f32 :=
  View.canon [⟨rRot, rot (View.ld x0 rIn) (View.ld x1 rIn)⟩]

/-- The translation's buffer after the body: the one store, over the whole buffer. -/
def out3 (x0 x1 : Vec F S4x3x2048 .f32) : Vec F S4x3x1 .f32 :=
  View.canon [⟨rTrans, trans (View.ld x0 rIn) (View.ld x1 rIn)⟩]

/-- The rotation's store covers its buffer. -/
theorem cover2 (p0 : Vec F S4x3x3 .f32) (y : S4x3x3.Idx) :
    ∃ pc ∈ ([⟨rRot, p0⟩] : List (View.Piece (Elt F) S4x3x3 .f32)), y ∈ pc.1.set :=
  View.cover_of_tiled [⟨rRot, p0⟩] S4x3x3.size (by rfl) y

/-- The translation's store covers its buffer. -/
theorem cover3 (p0 : Vec F S4x3x1 .f32) (y : S4x3x1.Idx) :
    ∃ pc ∈ ([⟨rTrans, p0⟩] : List (View.Piece (Elt F) S4x3x1 .f32)), y ∈ pc.1.set :=
  View.cover_of_tiled [⟨rTrans, p0⟩] S4x3x1.size (by rfl) y

/-! ## The body's triple -/

set_option maxHeartbeats 4000000 in
/-- The body on whole buffers: the inputs' stay, the outputs' end at `out2` and `out3` of the inputs'. -/
theorem sound_kernel (c : Dev nD) (E : Set ℕ) (i : grid0.Coords) (arg1 : Memref sig .tc .vmem S4x3x2048 .f32) (harg1 : arg1.IsWhole) (arg2 : Memref sig .tc .vmem S4x3x2048 .f32) (harg2 : arg2.IsWhole) (arg3 : Memref sig .tc .vmem S4x3x3 .f32) (harg3 : arg3.IsWhole) (arg4 : Memref sig .tc .vmem S4x3x1 .f32) (harg4 : arg4.IsWhole)
    (x0 x1 : Vec F S4x3x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2 x0 x1) ∗ owns (c : Thread nD τ) arg4 fullShare (out3 x0 x1)) -∗ K ⟨⟩))
      ⊢ wp frame (wpE (defs₀ (F := F)) Variants.none c none) E (cc0__pose_body i arg1 harg1 arg2 harg2 arg3 harg3 arg4 harg4) K := by
  simp only [cc0__pose_body_eq_skeleton]; unfold cc0__pose_body_skel
  simp only [k0_part7_eq_skeleton, k0_part8_eq_skeleton, k0_part9_eq_skeleton, k0_part10_eq_skeleton, k0_part11_eq_skeleton]
  unfold k0_part9_skel
  simp only [loop_eq]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover3 _)

/-! ## The pipeline's proof data -/

/-- The proof data of the one pipeline: the arrays as the region finds them, the outputs' buffers at `out2`, `out3`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The source points' buffer is left in place. -/
theorem after0_0 (c : Dev nD) (t : Fin cfg0.N) : (dats m 0 c).after 0 t = iblk m c 0 t := by dsimp only [dats]
/-- The correspondence's buffer is left in place. -/
theorem after0_1 (c : Dev nD) (t : Fin cfg0.N) : (dats m 0 c).after 1 t = iblk m c 1 t := by dsimp only [dats]
/-- The rotation's buffer after the body. -/
theorem after0_2 (c : Dev nD) (t : Fin cfg0.N) : (dats m 0 c).after 2 t = out2 (iblk m c 0 t) (iblk m c 1 t) := by dsimp only [dats]
/-- The translation's buffer after the body. -/
theorem after0_3 (c : Dev nD) (t : Fin cfg0.N) : (dats m 0 c).after 3 t = out3 (iblk m c 0 t) (iblk m c 1 t) := by dsimp only [dats]

/-- The source points' buffer before the body holds their block. -/
theorem before0_0 (c : Dev nD) (t : Fin cfg0.N) (d) : (dats m 0 c).before 0 t d = iblk m c 0 t :=
  before0_0_of m (dats m 0 c) (A_eq m c 0) (after0_0 m c) t d
/-- The correspondence's buffer before the body holds its block. -/
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a point runs from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: the pipeline's post, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, the pipeline's post alone. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel2Ideal.Pose

end
-- ==== Proof.Pose.Array.lean ====
/- The kernel's output arrays are the rotation and the translation of its argument arrays. -/
module

public import proofs.«01_k».proof.Proof.Pose.Kernel2IdealRun
public import Idealize.ShloMosaic.Lib.Pipeline.ValueKit

@[expose] public section

set_option maxRecDepth 16384

noncomputable section

namespace Cert.Kernel2Ideal.Pose

open Cert.Kernel2Ideal Cert.Kernel2Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

/-- Every window's block starts at the array's start. -/
theorem idx : ∀ t : Fin cfg0.N, win0_0.index t = ![0, 0, 0] ∧ win0_1.index t = ![0, 0, 0]
    ∧ win0_2.index t = ![0, 0, 0] ∧ win0_3.index t = ![0, 0, 0] :=
  (by decide +kernel : ∀ t : Fin grid0.N, _)

/-- The first input block, element by element. -/
theorem x_at (c : Dev nD) (t : Fin cfg0.N) (b : Fin 4) (d : Fin 3) (j : Fin 2048) :
    iblk m c 0 t (ix3 b d j) = m ((c.tc : Thread nD τ).loc main_arg0) (ix3 b d j) := by
  blk_point [iblk, V, idx t]

/-- The first input block is the source points. -/
theorem x_eq (c : Dev nD) (t : Fin cfg0.N) : iblk m c 0 t = m ((c.tc : Thread nD τ).loc main_arg0) := by
  funext l
  rw [eq_ix3 l]
  exact x_at m c t _ _ _

/-- The second input block, element by element. -/
theorem y_at (c : Dev nD) (t : Fin cfg0.N) (b : Fin 4) (d : Fin 3) (j : Fin 2048) :
    iblk m c 1 t (ix3 b d j) = m ((c.tc : Thread nD τ).loc main_arg1) (ix3 b d j) := by
  blk_point [iblk, V, idx t]

/-- The second input block is the correspondence. -/
theorem y_eq (c : Dev nD) (t : Fin cfg0.N) : iblk m c 1 t = m ((c.tc : Thread nD τ).loc main_arg1) := by
  funext l
  rw [eq_ix3 l]
  exact y_at m c t _ _ _

/-- Where the rotation's block puts its element `(b, i, j)`. -/
theorem rot_out_at (t : Fin cfg0.N) (b : Fin 4) (i j : Fin 3) :
    ((View.whole main_v0_0).slice (win0_2.rect t)).emb (ix3 b i j) = ix3 b i j := by
  blk_ext [idx t]

/-- Where the translation's block puts its element `(b, i, j)`. -/
theorem trans_out_at (t : Fin cfg0.N) (b : Fin 4) (i : Fin 3) (j : Fin 1) :
    ((View.whole main_v0_1).slice (win0_3.rect t)).emb (ix3 b i j) = ix3 b i j := by
  blk_ext [idx t]

/-- The rotation's buffer is the rotation of the inputs. -/
theorem out2_eq (x0 x1 : Vec F S4x3x2048 .f32) : out2 x0 x1 = rot x0 x1 := by
  unfold out2
  simp (disch := decide) only [View.canon_cons_unit_lit', View.ld_unit_lit']

/-- The translation's buffer is the translation of the inputs. -/
theorem out3_eq (x0 x1 : Vec F S4x3x2048 .f32) : out3 x0 x1 = trans x0 x1 := by
  unfold out3
  simp (disch := decide) only [View.canon_cons_unit_lit', View.ld_unit_lit']

/-- The first output array ends as the rotation of the argument arrays. -/
theorem rot_final (c : Dev nD) : (dats m 0 c).arrAt 2 (cfgs 0).N
    = rot (m ((c.tc : Thread nD τ).loc main_arg0)) (m ((c.tc : Thread nD τ).loc main_arg1)) := by
  refine (dats m 0 c).arrAt_eq_of_covers 2 _ (by decide +kernel) fun t _ y => ?_
  blk_simp
  rw [after0_2, out2_eq, x_eq, y_eq]
  idx_vars y
  exact congrArg _ (rot_out_at t y0 y1 y2).symm

/-- The second output array ends as the translation of the argument arrays. -/
theorem trans_final (c : Dev nD) : (dats m 0 c).arrAt 3 (cfgs 0).N
    = trans (m ((c.tc : Thread nD τ).loc main_arg0)) (m ((c.tc : Thread nD τ).loc main_arg1)) := by
  refine (dats m 0 c).arrAt_eq_of_covers 3 _ (by decide +kernel) fun t _ y => ?_
  blk_simp
  rw [after0_3, out3_eq, x_eq, y_eq]
  idx_vars y
  exact congrArg _ (trans_out_at t y0 y1 y2).symm

end Cert.Kernel2Ideal.Pose

end
-- ==== Proof.Pose.Trip.lean ====
/- One trip of the kernel's loop as three rotations of a pair of rows, each written once over its slices. -/
module

public import proofs.«01_k».proof.Proof.Pose.Kernel2IdealRun
public import Idealize.ShloMosaic.Lib.Pointwise

@[expose] public section

set_option maxRecDepth 16384

noncomputable section

namespace Cert.Kernel2Ideal.Pose

open Cert.Kernel2Ideal Cert.Kernel2Ideal.Gen Idealize.ShloMosaic Idealize.ShloMosaic.TcCoe Idealize.SL.Sem

variable {F : FTy → Type} [FloatOps F] [Named F]

/-- The sum along a row of the products of two rows. -/
def rowDot (p q : FVec F S4x1x3 .f32) : FVec F S4x1x1 .f32 :=
  shapeCast S4x1x1 (multiReduction .add [2] S4x1 (mulf p q) 0x00000000#32 reduces_S4x1x3_S4x1 (.inl rfl) rfl) shapeCasts_S4x1_S4x1x1

/-- The constant `w` at every pair. -/
def one1 (w : BitVec 32) : FVec F S4x1x1 .f32 := broadcast S4x1x1 (Scalar.ofBits .f32 w : F .f32)

/-- The rotation's cotangent of the doubled angle, the sum `g` of products guarded against zero. -/
def tau (a b g : FVec F S4x1x1 .f32) : FVec F S4x1x1 .f32 :=
  divf (subf b a) (mulf (one1 0x40000000#32) (select (cmpf .ogt (absf g) (one1 0x00000000#32)) g (one1 0x3F800000#32)))

/-- The tangent of the rotation's angle from `tau`. -/
def tanOf (u g : FVec F S4x1x1 .f32) : FVec F S4x1x1 .f32 :=
  select (cmpf .ogt (absf g) (one1 0x00000000#32))
    (divf (select (cmpf .oge u (one1 0x00000000#32)) (one1 0x3F800000#32) (one1 0xBF800000#32))
      (addf (absf u) (sqrt (addf (one1 0x3F800000#32) (mulf u u)))))
    (one1 0x00000000#32)

/-- The tangent of the angle that turns the rows `p` and `q` orthogonal. -/
def tan (p q : FVec F S4x1x3 .f32) : FVec F S4x1x1 .f32 :=
  tanOf (tau (rowDot p p) (rowDot q q) (rowDot p q)) (rowDot p q)

/-- The cosine from the tangent. -/
def cosOf (t : FVec F S4x1x1 .f32) : FVec F S4x1x1 .f32 := rsqrt (addf (one1 0x3F800000#32) (mulf t t))

/-- One at row `w` and zero at the others. -/
def rowMark (w : BitVec 32) : FVec F S1x3x1 .f32 :=
  select (cmpi .eq (iota .tc S1x3x1 32 [1] iota_S1x3x1_d1_w32) (broadcast S1x3x1 w))
    (broadcast S1x3x1 (Scalar.ofBits .f32 0x3F800000#32 : F .f32)) (broadcast S1x3x1 (Scalar.ofBits .f32 0x00000000#32 : F .f32))

/-- One at column `w` and zero at the others. -/
def colMark (w : BitVec 32) : FVec F S1x1x3 .f32 :=
  select (cmpi .eq (iota .tc S1x1x3 32 [2] iota_S1x1x3_d2_w32) (broadcast S1x1x3 w))
    (broadcast S1x1x3 (Scalar.ofBits .f32 0x3F800000#32 : F .f32)) (broadcast S1x1x3 (Scalar.ofBits .f32 0x00000000#32 : F .f32))

/-- The matrix `A` with its rows `i` and `j`, which are `p` and `q`, turned by the cosine `c` and the sine `s`. -/
def turnRows (i j : BitVec 32) (A : FVec F S4x3x3 .f32) (p q : FVec F S4x1x3 .f32) (c s : FVec F S4x1x1 .f32) : FVec F S4x3x3 .f32 :=
  let C := broadcastTo S4x1x3 c broadcasts_S4x1x1_S4x1x3
  let S := broadcastTo S4x1x3 s broadcasts_S4x1x1_S4x1x3
  addf (addf A (mulf (broadcastTo S4x3x3 (subf (subf (mulf C p) (mulf S q)) p) broadcasts_S4x1x3_S4x3x3)
      (broadcastTo S4x3x3 (rowMark i) broadcasts_S1x3x1_S4x3x3)))
    (mulf (broadcastTo S4x3x3 (subf (addf (mulf S p) (mulf C q)) q) broadcasts_S4x1x3_S4x3x3)
      (broadcastTo S4x3x3 (rowMark j) broadcasts_S1x3x1_S4x3x3))

/-- The matrix `V` with its columns `i` and `j`, which are `p` and `q`, turned by the cosine `c` and the sine `s`. -/
def turnCols (i j : BitVec 32) (V : FVec F S4x3x3 .f32) (p q : FVec F S4x3x1 .f32) (c s : FVec F S4x1x1 .f32) : FVec F S4x3x3 .f32 :=
  let C := broadcastTo S4x3x1 c broadcasts_S4x1x1_S4x3x1
  let S := broadcastTo S4x3x1 s broadcasts_S4x1x1_S4x3x1
  addf (addf V (mulf (broadcastTo S4x3x3 (subf (subf (mulf C p) (mulf S q)) p) broadcasts_S4x3x1_S4x3x3)
      (broadcastTo S4x3x3 (colMark i) broadcasts_S1x1x3_S4x3x3)))
    (mulf (broadcastTo S4x3x3 (subf (addf (mulf S p) (mulf C q)) q) broadcasts_S4x3x1_S4x3x3)
      (broadcastTo S4x3x3 (colMark j) broadcasts_S1x1x3_S4x3x3))

/-- The first rows, second rows and third rows of a matrix, and its columns. -/
def row0 (A : FVec F S4x3x3 .f32) : FVec F S4x1x3 .f32 := extractStridedSlice S4x1x3 ![0, 0, 0] A slices_S4x3x3_o0_0_0_S4x1x3
/-- The middle row. -/
def row1 (A : FVec F S4x3x3 .f32) : FVec F S4x1x3 .f32 := extractStridedSlice S4x1x3 ![0, 1, 0] A slices_S4x3x3_o0_1_0_S4x1x3
/-- The last row. -/
def row2 (A : FVec F S4x3x3 .f32) : FVec F S4x1x3 .f32 := extractStridedSlice S4x1x3 ![0, 2, 0] A slices_S4x3x3_o0_2_0_S4x1x3
/-- The first column. -/
def col0 (V : FVec F S4x3x3 .f32) : FVec F S4x3x1 .f32 := extractStridedSlice S4x3x1 ![0, 0, 0] V slices_S4x3x3_o0_0_0_S4x3x1
/-- The middle column. -/
def col1 (V : FVec F S4x3x3 .f32) : FVec F S4x3x1 .f32 := extractStridedSlice S4x3x1 ![0, 0, 1] V slices_S4x3x3_o0_0_1_S4x3x1
/-- The last column. -/
def col2 (V : FVec F S4x3x3 .f32) : FVec F S4x3x1 .f32 := extractStridedSlice S4x3x1 ![0, 0, 2] V slices_S4x3x3_o0_0_2_S4x3x1

/-- The rotation of the rows 0 and 1. -/
def rot01 (x : FVec F S4x3x3 .f32 × FVec F S4x3x3 .f32) : FVec F S4x3x3 .f32 × FVec F S4x3x3 .f32 :=
  let t := tan (row0 x.1) (row1 x.1); let c := cosOf t; let s := mulf t c
  (turnRows 0#32 1#32 x.1 (row0 x.1) (row1 x.1) c s, turnCols 0#32 1#32 x.2 (col0 x.2) (col1 x.2) c s)

/-- The rotation of the rows 0 and 2. -/
def rot02 (x : FVec F S4x3x3 .f32 × FVec F S4x3x3 .f32) : FVec F S4x3x3 .f32 × FVec F S4x3x3 .f32 :=
  let t := tan (row0 x.1) (row2 x.1); let c := cosOf t; let s := mulf t c
  (turnRows 0#32 2#32 x.1 (row0 x.1) (row2 x.1) c s, turnCols 0#32 2#32 x.2 (col0 x.2) (col2 x.2) c s)

/-- The rotation of the rows 1 and 2. -/
def rot12 (x : FVec F S4x3x3 .f32 × FVec F S4x3x3 .f32) : FVec F S4x3x3 .f32 × FVec F S4x3x3 .f32 :=
  let t := tan (row1 x.1) (row2 x.1); let c := cosOf t; let s := mulf t c
  (turnRows 1#32 2#32 x.1 (row1 x.1) (row2 x.1) c s, turnCols 1#32 2#32 x.2 (col1 x.2) (col2 x.2) c s)

/-- The first rotation's rows, as the trip computes them. -/
theorem first_rows (A V : FVec F S4x3x3 .f32) : (first A V).1 = (rot01 (A, V)).1 := rfl

/-- The first rotation's columns, as the trip computes them. -/
theorem first_cols (A V : FVec F S4x3x3 .f32) : k0_pay14 (first A V).2.1 (first A V).2.2 = (rot01 (A, V)).2 := rfl

/-- The second rotation's rows. -/
theorem second_rows (A V : FVec F S4x3x3 .f32) (z : FVec F S4x3x1 .f32) :
    (second A V z).1 = (rot02 (A, k0_pay14 V z)).1 := rfl

/-- The second rotation's columns. -/
theorem second_cols (A V : FVec F S4x3x3 .f32) (z : FVec F S4x3x1 .f32) :
    secondV A V z = (rot02 (A, k0_pay14 V z)).2 := rfl

/-- The third rotation's rows. -/
theorem third_rows (acc : FVec F S4x3x3 .f32 × FVec F S4x3x3 .f32) :
    (trip acc).1 = (rot12 ((second (first acc.1 acc.2).1 (first acc.1 acc.2).2.1 (first acc.1 acc.2).2.2).1,
      secondV (first acc.1 acc.2).1 (first acc.1 acc.2).2.1 (first acc.1 acc.2).2.2)).1 := rfl

/-- The third rotation's columns. -/
theorem third_cols (acc : FVec F S4x3x3 .f32 × FVec F S4x3x3 .f32) :
    (trip acc).2 = (rot12 ((second (first acc.1 acc.2).1 (first acc.1 acc.2).2.1 (first acc.1 acc.2).2.2).1,
      secondV (first acc.1 acc.2).1 (first acc.1 acc.2).2.1 (first acc.1 acc.2).2.2)).2 := rfl

/-- A trip is the three rotations in turn. -/
theorem trip_eq (acc : FVec F S4x3x3 .f32 × FVec F S4x3x3 .f32) : trip acc = rot12 (rot02 (rot01 acc)) := by
  have h : rot12 (rot02 (rot01 acc)) = rot12 ((second (first acc.1 acc.2).1 (first acc.1 acc.2).2.1 (first acc.1 acc.2).2.2).1,
      secondV (first acc.1 acc.2).1 (first acc.1 acc.2).2.1 (first acc.1 acc.2).2.2) := by
    rw [second_rows, second_cols, first_rows, first_cols]
  rw [h]
  exact Prod.ext (third_rows acc) (third_cols acc)

end Cert.Kernel2Ideal.Pose

end
-- ==== Proof.Pose.Plane.lean ====
/- The plane rotations of one-sided Jacobi over the reals, and the extended-real operations on reals they come from. -/
module

public import Idealize.ShloMosaic.Lib.Pointwise

@[expose] public section

set_option maxRecDepth 16384

noncomputable section

namespace Cert.Pose

open Idealize.ShloMosaic

/-! ## Operations of extended reals at reals -/

/-- A quotient by a nonzero real. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- A root of a nonnegative real. -/
theorem sqrt_coe (x : ℝ) (h : 0 ≤ x) : Ideal.sqrt (x : EReal) = ((√x : ℝ) : EReal) := by
  show (if x < 0 then ⊥ else ((√x : ℝ) : EReal)) = _
  rw [if_neg (not_lt.2 h)]

/-- A reciprocal root of a positive real. -/
theorem rsqrt_coe (x : ℝ) (h : 0 < x) : Ideal.rsqrt (x : EReal) = (((√x)⁻¹ : ℝ) : EReal) := by
  show (if x < 0 then ⊥ else if x = 0 then ⊤ else (((√x)⁻¹ : ℝ) : EReal)) = _
  rw [if_neg (not_lt.2 h.le), if_neg h.ne']

/-- The absolute value of a real. -/
theorem abs_coe (x : ℝ) : FloatOps.absf (F := Ideal) (φ := .f32) (x : EReal) = ((|x| : ℝ) : EReal) := by
  show max (x : EReal) (-(x : EReal)) = _
  rw [← EReal.coe_neg]
  rcases le_total 0 x with h | h
  · rw [abs_of_nonneg h, max_eq_left (by exact_mod_cast (by linarith : -x ≤ x))]
  · rw [abs_of_nonpos h, max_eq_right (by exact_mod_cast (by linarith : x ≤ -x))]

/-- The word of two. -/
theorem word_two : Ideal.ofBits .f32 1073741824#32 = ((2 : ℝ) : EReal) := by
  simp [Ideal.ofBits, Ideal.ieee]
  rw [← EReal.coe_mul]
  norm_num

/-- The word of minus one. -/
theorem word_neg_one : Ideal.ofBits .f32 3212836864#32 = ((-1 : ℝ) : EReal) := by
  simp [Ideal.ofBits, Ideal.ieee]
  rw [← EReal.coe_mul, ← EReal.coe_one]
  norm_num

/-- The word of the number of points. -/
theorem word_count : Ideal.ofBits .f32 0x45000000#32 = ((2048 : ℝ) : EReal) := by
  simp [Ideal.ofBits, Ideal.ieee]
  rw [← EReal.coe_mul]
  norm_num

/-- The word added to the sum of the weights. -/
theorem word_eps : Ideal.ofBits .f32 0x3727C5AC#32 = ((10995116 / 2 ^ 40 : ℝ) : EReal) := by
  simp [Ideal.ofBits, Ideal.ieee]
  rw [← EReal.coe_mul]
  norm_num

/-- A sum of three reals' images. -/
theorem sum3_coe (f : Fin 3 → ℝ) : ∑ k, ((f k : ℝ) : EReal) = ((∑ k, f k : ℝ) : EReal) := by
  rw [Fin.sum_univ_three, Fin.sum_univ_three, EReal.coe_add, EReal.coe_add]

/-- A finite sum of reals' images. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-! ## The rotation's angle -/

/-- The cotangent of the doubled angle. -/
def cotR (a b g : ℝ) : ℝ := (b - a) / (2 * g)

/-- The tangent with cotangent of the doubled angle `u`, the smaller of the two. -/
def tanU (u : ℝ) : ℝ := (if 0 ≤ u then 1 else -1) / (|u| + √(1 + u * u))

/-- The tangent of the angle that turns two vectors of squared lengths `a`, `b` and product `g` orthogonal. -/
def tanR (a b g : ℝ) : ℝ := if g = 0 then 0 else tanU (cotR a b g)

/-- The cosine from the tangent. -/
def cosR (t : ℝ) : ℝ := (√(1 + t * t))⁻¹

/-- One plus a square is positive. -/
theorem one_add_pos (t : ℝ) : 0 < 1 + t * t := by nlinarith [mul_self_nonneg t]

/-- The squares of cosine and sine sum to one. -/
theorem cos_sin (t : ℝ) : cosR t * cosR t + (t * cosR t) * (t * cosR t) = 1 := by
  have h : √(1 + t * t) * √(1 + t * t) = 1 + t * t := Real.mul_self_sqrt (one_add_pos t).le
  have h0 : √(1 + t * t) ≠ 0 := (Real.sqrt_pos.2 (one_add_pos t)).ne'
  unfold cosR
  field_simp
  rw [Real.sq_sqrt (by nlinarith [mul_self_nonneg t])]

/-- The tangent's denominator is positive. -/
theorem den_pos (u : ℝ) : 0 < |u| + √(1 + u * u) :=
  add_pos_of_nonneg_of_pos (abs_nonneg u) (Real.sqrt_pos.2 (one_add_pos u))

/-- The tangent in extended reals. -/
theorem tanU_coe (u : ℝ) :
    Ideal.div (if (0 : EReal) ≤ (u : EReal) then 1 else ((-1 : ℝ) : EReal)) (((|u| : ℝ) : EReal) + Ideal.sqrt (1 + (u : EReal) * (u : EReal)))
      = ((tanU u : ℝ) : EReal) := by
  have h1 : (1 : EReal) + (u : EReal) * (u : EReal) = ((1 + u * u : ℝ) : EReal) := by push_cast; rfl
  rw [h1, sqrt_coe _ (one_add_pos u).le, ← EReal.coe_add]
  unfold tanU
  by_cases h : 0 ≤ u
  · rw [if_pos (by exact_mod_cast h), if_pos h, ← EReal.coe_one, div_coe _ _ (den_pos u).ne']
  · rw [if_neg (by exact_mod_cast h), if_neg h, div_coe _ _ (den_pos u).ne']

/-- The cosine as a reciprocal root, in extended reals. -/
theorem cosR_coe (t : ℝ) : Ideal.rsqrt (1 + (t : EReal) * (t : EReal)) = ((cosR t : ℝ) : EReal) := by
  have h1 : (1 : EReal) + (t : EReal) * (t : EReal) = ((1 + t * t : ℝ) : EReal) := by push_cast; rfl
  rw [h1, rsqrt_coe _ (one_add_pos t)]
  rfl

/-- The cosine as one over a root, in extended reals. -/
theorem cosR_coe' (t : ℝ) : Ideal.div 1 (Ideal.sqrt (1 + (t : EReal) * (t : EReal))) = ((cosR t : ℝ) : EReal) := by
  have h1 : (1 : EReal) + (t : EReal) * (t : EReal) = ((1 + t * t : ℝ) : EReal) := by push_cast; rfl
  rw [h1, sqrt_coe _ (one_add_pos t).le, ← EReal.coe_one, div_coe _ _ (Real.sqrt_pos.2 (one_add_pos t)).ne', one_div]
  rfl

/-! ## The sweeps -/

/-- A 3 × 3 matrix's columns and the columns of the rotations' product. -/
abbrev Cols : Type := (Fin 3 → Fin 3 → ℝ) × (Fin 3 → Fin 3 → ℝ)

/-- The inner product of two columns. -/
def dot (p q : Fin 3 → ℝ) : ℝ := ∑ k, p k * q k

/-- The columns `i` and `j` of `m` replaced by their images under the rotation of cosine `c` and sine `s`. -/
def mix (i j : Fin 3) (c s : ℝ) (m : Fin 3 → Fin 3 → ℝ) : Fin 3 → Fin 3 → ℝ := fun r k =>
  if r = i then c * m i k - s * m j k else if r = j then s * m i k + c * m j k else m r k

/-- The tangent for the columns `i` and `j`. -/
def ang (i j : Fin 3) (m : Fin 3 → Fin 3 → ℝ) : ℝ := tanR (dot (m i) (m i)) (dot (m j) (m j)) (dot (m i) (m j))

/-- One rotation: the columns `i` and `j` turned orthogonal, the rotations' product with them. -/
def turn (i j : Fin 3) (x : Cols) : Cols :=
  (mix i j (cosR (ang i j x.1)) (ang i j x.1 * cosR (ang i j x.1)) x.1,
    mix i j (cosR (ang i j x.1)) (ang i j x.1 * cosR (ang i j x.1)) x.2)

/-- One sweep over the three pairs of columns. -/
def sweep (x : Cols) : Cols := turn 1 2 (turn 0 2 (turn 0 1 x))

/-! ## Determinants and products -/

/-- The determinant of the matrix with columns `m 0`, `m 1`, `m 2`. -/
def det (m : Fin 3 → Fin 3 → ℝ) : ℝ :=
  m 0 0 * (m 1 1 * m 2 2 - m 2 1 * m 1 2) - m 1 0 * (m 0 1 * m 2 2 - m 2 1 * m 0 2) + m 2 0 * (m 0 1 * m 1 2 - m 1 1 * m 0 2)

/-- A rotation of the first two columns keeps the determinant. -/
theorem det_mix01 (c s : ℝ) (h : c * c + s * s = 1) (m : Fin 3 → Fin 3 → ℝ) : det (mix 0 1 c s m) = det m := by
  simp only [det, mix]
  simp only [Fin.isValue, if_true, if_false, Fin.reduceEq, reduceIte]
  linear_combination (m 0 0 * (m 1 1 * m 2 2 - m 2 1 * m 1 2) - m 1 0 * (m 0 1 * m 2 2 - m 2 1 * m 0 2) + m 2 0 * (m 0 1 * m 1 2 - m 1 1 * m 0 2)) * h

/-- A rotation of the outer two columns keeps the determinant. -/
theorem det_mix02 (c s : ℝ) (h : c * c + s * s = 1) (m : Fin 3 → Fin 3 → ℝ) : det (mix 0 2 c s m) = det m := by
  simp only [det, mix]
  simp only [Fin.isValue, if_true, if_false, Fin.reduceEq, reduceIte]
  linear_combination (m 0 0 * (m 1 1 * m 2 2 - m 2 1 * m 1 2) - m 1 0 * (m 0 1 * m 2 2 - m 2 1 * m 0 2) + m 2 0 * (m 0 1 * m 1 2 - m 1 1 * m 0 2)) * h

/-- A rotation of the last two columns keeps the determinant. -/
theorem det_mix12 (c s : ℝ) (h : c * c + s * s = 1) (m : Fin 3 → Fin 3 → ℝ) : det (mix 1 2 c s m) = det m := by
  simp only [det, mix]
  simp only [Fin.isValue, if_true, if_false, Fin.reduceEq, reduceIte]
  linear_combination (m 0 0 * (m 1 1 * m 2 2 - m 2 1 * m 1 2) - m 1 0 * (m 0 1 * m 2 2 - m 2 1 * m 0 2) + m 2 0 * (m 0 1 * m 1 2 - m 1 1 * m 0 2)) * h

/-- The rotations of a sweep keep the determinants of both matrices. -/
theorem det_sweep (x : Cols) : det (sweep x).1 = det x.1 ∧ det (sweep x).2 = det x.2 := by
  simp only [sweep, turn]
  exact ⟨by rw [det_mix12 _ _ (cos_sin _), det_mix02 _ _ (cos_sin _), det_mix01 _ _ (cos_sin _)],
    by rw [det_mix12 _ _ (cos_sin _), det_mix02 _ _ (cos_sin _), det_mix01 _ _ (cos_sin _)]⟩

end Cert.Pose

end
-- ==== Proof.Pose.TripValue.lean ====
/- One trip of the kernel's loop on matrices of reals: the three plane rotations of a sweep. -/
module

public import proofs.«01_k».proof.Proof.Pose.Trip
public import proofs.«01_k».proof.Proof.Pose.Plane

@[expose] public section

set_option maxRecDepth 16384

noncomputable section

namespace Cert.Kernel2Ideal.Pose

open Cert.Kernel2Ideal Cert.Kernel2Ideal.Gen Idealize.ShloMosaic Idealize.ShloMosaic.TcCoe Idealize.SL.Sem
open Cert.Pose (Cols)

/-! ## The steps, element by element -/

/-- A row's product with another, element by element. -/
theorem rowDot_at (p q : FVec Ideal S4x1x3 .f32) (b : Fin 4) :
    rowDot p q (ix3 b 0 0) = ∑ k, p (ix3 b 0 k) * q (ix3 b 0 k) := by
  pointwise [rowDot]

/-- The guarded cotangent, element by element. -/
theorem tau_at (a b g : FVec Ideal S4x1x1 .f32) (i : Fin 4) : tau a b g (ix3 i 0 0) =
    Ideal.div (b (ix3 i 0 0) - a (ix3 i 0 0))
      (Ideal.ofBits FTy.f32 1073741824#32 * if 0 < FloatOps.absf (g (ix3 i 0 0)) then g (ix3 i 0 0) else 1) := by
  pointwise [tau, one1]

/-- The guarded tangent, element by element. -/
theorem tanOf_at (u g : FVec Ideal S4x1x1 .f32) (i : Fin 4) : tanOf u g (ix3 i 0 0) =
    if 0 < FloatOps.absf (g (ix3 i 0 0)) then
      Ideal.div (if 0 ≤ u (ix3 i 0 0) then 1 else Ideal.ofBits FTy.f32 3212836864#32)
        (FloatOps.absf (u (ix3 i 0 0)) + Ideal.sqrt (1 + u (ix3 i 0 0) * u (ix3 i 0 0)))
    else 0 := by
  pointwise [tanOf, one1]

/-- The cosine, element by element. -/
theorem cosOf_at (t : FVec Ideal S4x1x1 .f32) (i : Fin 4) :
    cosOf t (ix3 i 0 0) = Ideal.rsqrt (1 + t (ix3 i 0 0) * t (ix3 i 0 0)) := by
  pointwise [cosOf, one1]

/-- A row's mark. -/
theorem rowMark_at (w : BitVec 32) (r : Fin 3) :
    rowMark (F := Ideal) w (ix3 0 r 0) = Scalar.select (IntOp.cmpi CmpIPredicate.eq (BitVec.ofNat 32 r.val) w) 1 0 := by
  pointwise [rowMark]

/-- A column's mark. -/
theorem colMark_at (w : BitVec 32) (k : Fin 3) :
    colMark (F := Ideal) w (ix3 0 0 k) = Scalar.select (IntOp.cmpi CmpIPredicate.eq (BitVec.ofNat 32 k.val) w) 1 0 := by
  pointwise [colMark]

/-- The turned rows, element by element. -/
theorem turnRows_at (i j : BitVec 32) (A : FVec Ideal S4x3x3 .f32) (p q : FVec Ideal S4x1x3 .f32) (c s : FVec Ideal S4x1x1 .f32)
    (b : Fin 4) (r k : Fin 3) : turnRows i j A p q c s (ix3 b r k) =
    A (ix3 b r k) +
        (c (ix3 b 0 0) * p (ix3 b 0 k) - s (ix3 b 0 0) * q (ix3 b 0 k) - p (ix3 b 0 k)) * rowMark i (ix3 0 r 0) +
      (s (ix3 b 0 0) * p (ix3 b 0 k) + c (ix3 b 0 0) * q (ix3 b 0 k) - q (ix3 b 0 k)) * rowMark j (ix3 0 r 0) := by
  pointwise [turnRows]

/-- The turned columns, element by element. -/
theorem turnCols_at (i j : BitVec 32) (V : FVec Ideal S4x3x3 .f32) (p q : FVec Ideal S4x3x1 .f32) (c s : FVec Ideal S4x1x1 .f32)
    (b : Fin 4) (r k : Fin 3) : turnCols i j V p q c s (ix3 b r k) =
    V (ix3 b r k) +
        (c (ix3 b 0 0) * p (ix3 b r 0) - s (ix3 b 0 0) * q (ix3 b r 0) - p (ix3 b r 0)) * colMark i (ix3 0 0 k) +
      (s (ix3 b 0 0) * p (ix3 b r 0) + c (ix3 b 0 0) * q (ix3 b r 0) - q (ix3 b r 0)) * colMark j (ix3 0 0 k) := by
  pointwise [turnCols]

/-- The first row. -/
theorem row0_at (A : FVec Ideal S4x3x3 .f32) (b : Fin 4) (k : Fin 3) : row0 A (ix3 b 0 k) = A (ix3 b 0 k) := by
  pointwise [row0]
/-- The middle row. -/
theorem row1_at (A : FVec Ideal S4x3x3 .f32) (b : Fin 4) (k : Fin 3) : row1 A (ix3 b 0 k) = A (ix3 b 1 k) := by
  pointwise [row1]
/-- The last row. -/
theorem row2_at (A : FVec Ideal S4x3x3 .f32) (b : Fin 4) (k : Fin 3) : row2 A (ix3 b 0 k) = A (ix3 b 2 k) := by
  pointwise [row2]
/-- The first column. -/
theorem col0_at (A : FVec Ideal S4x3x3 .f32) (b : Fin 4) (k : Fin 3) : col0 A (ix3 b k 0) = A (ix3 b k 0) := by
  pointwise [col0]
/-- The middle column. -/
theorem col1_at (A : FVec Ideal S4x3x3 .f32) (b : Fin 4) (k : Fin 3) : col1 A (ix3 b k 0) = A (ix3 b k 1) := by
  pointwise [col1]
/-- The last column. -/
theorem col2_at (A : FVec Ideal S4x3x3 .f32) (b : Fin 4) (k : Fin 3) : col2 A (ix3 b k 0) = A (ix3 b k 2) := by
  pointwise [col2]

/-! ## At reals -/

/-- The tangent at rows of reals. -/
theorem tan_coe (p q : FVec Ideal S4x1x3 .f32) (b : Fin 4) (f g : Fin 3 → ℝ)
    (hp : ∀ k, p (ix3 b 0 k) = ((f k : ℝ) : EReal)) (hq : ∀ k, q (ix3 b 0 k) = ((g k : ℝ) : EReal)) :
    tan p q (ix3 b 0 0)
      = ((Cert.Pose.tanR (Cert.Pose.dot f f) (Cert.Pose.dot g g) (Cert.Pose.dot f g) : ℝ) : EReal) := by
  have hdot : ∀ (x y : FVec Ideal S4x1x3 .f32) (u v : Fin 3 → ℝ), (∀ k, x (ix3 b 0 k) = ((u k : ℝ) : EReal)) →
      (∀ k, y (ix3 b 0 k) = ((v k : ℝ) : EReal)) → rowDot x y (ix3 b 0 0) = ((Cert.Pose.dot u v : ℝ) : EReal) := by
    intro x y u v hx hy
    rw [rowDot_at]
    simp only [hx, hy, ← EReal.coe_mul]
    exact Cert.Pose.sum3_coe _
  rw [tan, tanOf_at, tau_at, hdot p p f f hp hp, hdot q q g g hq hq, hdot p q f g hp hq]
  generalize Cert.Pose.dot f f = α
  generalize Cert.Pose.dot g g = β
  generalize Cert.Pose.dot f g = γ
  rw [Cert.Pose.abs_coe, Cert.Pose.word_two, Cert.Pose.word_neg_one, Cert.Pose.tanR]
  by_cases h : γ = 0
  · rw [if_neg (by rw [h]; simp), if_pos h]; rfl
  · have h' : (0 : EReal) < ((|γ| : ℝ) : EReal) := by exact_mod_cast abs_pos.2 h
    rw [if_pos h', if_pos h', if_neg h, ← EReal.coe_sub, ← EReal.coe_mul,
      Cert.Pose.div_coe _ _ (mul_ne_zero two_ne_zero h), Cert.Pose.abs_coe]
    exact Cert.Pose.tanU_coe _

/-- The cosine at a real. -/
theorem cosOf_coe (t : FVec Ideal S4x1x1 .f32) (b : Fin 4) (r : ℝ) (h : t (ix3 b 0 0) = (r : EReal)) :
    cosOf t (ix3 b 0 0) = ((Cert.Pose.cosR r : ℝ) : EReal) := by
  rw [cosOf_at, h, Cert.Pose.cosR_coe]

/-- The sine at a real. -/
theorem sinOf_coe (t : FVec Ideal S4x1x1 .f32) (b : Fin 4) (r : ℝ) (h : t (ix3 b 0 0) = (r : EReal)) :
    mulf t (cosOf t) (ix3 b 0 0) = ((r * Cert.Pose.cosR r : ℝ) : EReal) := by
  have e : mulf t (cosOf t) (ix3 b 0 0) = t (ix3 b 0 0) * cosOf t (ix3 b 0 0) := rfl
  rw [e, cosOf_coe t b r h, h, EReal.coe_mul]

/-- A row's mark at its row and elsewhere. -/
theorem rowMark_coe (i r : Fin 3) : rowMark (F := Ideal) (BitVec.ofNat 32 i.val) (ix3 0 r 0) = (((if r = i then 1 else 0 : ℝ)) : EReal) := by
  rw [rowMark_at]
  fin_cases i <;> fin_cases r <;> simp [Scalar.select, IntOp.cmpi]

/-- A column's mark at its column and elsewhere. -/
theorem colMark_coe (i r : Fin 3) : colMark (F := Ideal) (BitVec.ofNat 32 i.val) (ix3 0 0 r) = (((if r = i then 1 else 0 : ℝ)) : EReal) := by
  rw [colMark_at]
  fin_cases i <;> fin_cases r <;> simp [Scalar.select, IntOp.cmpi]

/-- Matrices of reals as the kernel carries them: the columns as rows of the first, as columns of the second. -/
def emb (x : Fin 4 → Cols) : FVec Ideal S4x3x3 .f32 × FVec Ideal S4x3x3 .f32 :=
  (fun l => (((x (l 0)).1 (l 1) (l 2) : ℝ) : EReal), fun l => (((x (l 0)).2 (l 2) (l 1) : ℝ) : EReal))

/-- The rows turned, at reals. -/
theorem turnRows_coe (i j : Fin 3) (hij : i ≠ j) (x : Fin 4 → Cols) (p q : FVec Ideal S4x1x3 .f32) (c s : FVec Ideal S4x1x1 .f32)
    (C S : Fin 4 → ℝ) (hp : ∀ b k, p (ix3 b 0 k) = (((x b).1 i k : ℝ) : EReal)) (hq : ∀ b k, q (ix3 b 0 k) = (((x b).1 j k : ℝ) : EReal))
    (hc : ∀ b, c (ix3 b 0 0) = ((C b : ℝ) : EReal)) (hs : ∀ b, s (ix3 b 0 0) = ((S b : ℝ) : EReal)) :
    turnRows (BitVec.ofNat 32 i.val) (BitVec.ofNat 32 j.val) (emb x).1 p q c s
      = fun l => ((Cert.Pose.mix i j (C (l 0)) (S (l 0)) (x (l 0)).1 (l 1) (l 2) : ℝ) : EReal) := by
  have e : ∀ (b : Fin 4) (r k : Fin 3), turnRows (BitVec.ofNat 32 i.val) (BitVec.ofNat 32 j.val) (emb x).1 p q c s (ix3 b r k)
      = ((Cert.Pose.mix i j (C b) (S b) (x b).1 r k : ℝ) : EReal) := by
    intro b r k
    rw [turnRows_at, hp, hq, hc, hs, rowMark_coe, rowMark_coe]
    show (((x b).1 r k : ℝ) : EReal) + _ + _ = _
    simp only [← EReal.coe_mul, ← EReal.coe_add, ← EReal.coe_sub, Cert.Pose.mix]
    congr 1
    by_cases h1 : r = i
    · subst h1; simp [hij]
    · by_cases h2 : r = j
      · subst h2; simp [h1]
      · simp [h1, h2]
  funext l
  rw [eq_ix3 l]
  exact e _ _ _

/-- The columns turned, at reals. -/
theorem turnCols_coe (i j : Fin 3) (hij : i ≠ j) (x : Fin 4 → Cols) (p q : FVec Ideal S4x3x1 .f32) (c s : FVec Ideal S4x1x1 .f32)
    (C S : Fin 4 → ℝ) (hp : ∀ b k, p (ix3 b k 0) = (((x b).2 i k : ℝ) : EReal)) (hq : ∀ b k, q (ix3 b k 0) = (((x b).2 j k : ℝ) : EReal))
    (hc : ∀ b, c (ix3 b 0 0) = ((C b : ℝ) : EReal)) (hs : ∀ b, s (ix3 b 0 0) = ((S b : ℝ) : EReal)) :
    turnCols (BitVec.ofNat 32 i.val) (BitVec.ofNat 32 j.val) (emb x).2 p q c s
      = fun l => ((Cert.Pose.mix i j (C (l 0)) (S (l 0)) (x (l 0)).2 (l 2) (l 1) : ℝ) : EReal) := by
  have e : ∀ (b : Fin 4) (r k : Fin 3), turnCols (BitVec.ofNat 32 i.val) (BitVec.ofNat 32 j.val) (emb x).2 p q c s (ix3 b r k)
      = ((Cert.Pose.mix i j (C b) (S b) (x b).2 k r : ℝ) : EReal) := by
    intro b r k
    rw [turnCols_at, hp, hq, hc, hs, colMark_coe, colMark_coe]
    show (((x b).2 k r : ℝ) : EReal) + _ + _ = _
    simp only [← EReal.coe_mul, ← EReal.coe_add, ← EReal.coe_sub, Cert.Pose.mix]
    congr 1
    by_cases h1 : k = i
    · subst h1; simp [hij]
    · by_cases h2 : k = j
      · subst h2; simp [h1]
      · simp [h1, h2]
  funext l
  rw [eq_ix3 l]
  exact e _ _ _

/-- The first rotation at reals. -/
theorem rot01_coe (x : Fin 4 → Cols) : rot01 (emb x) = emb (fun b => Cert.Pose.turn 0 1 (x b)) := by
  have ht : ∀ b, tan (row0 (emb x).1) (row1 (emb x).1) (ix3 b 0 0) = ((Cert.Pose.ang 0 1 (x b).1 : ℝ) : EReal) := fun b =>
    tan_coe _ _ b ((x b).1 0) ((x b).1 1) (fun k => row0_at _ b k) (fun k => row1_at _ b k)
  exact Prod.ext
    (turnRows_coe 0 1 (by decide) x _ _ _ _ _ _ (fun b k => row0_at _ b k) (fun b k => row1_at _ b k)
      (fun b => cosOf_coe _ b _ (ht b)) (fun b => sinOf_coe _ b _ (ht b)))
    (turnCols_coe 0 1 (by decide) x _ _ _ _ _ _ (fun b k => col0_at _ b k) (fun b k => col1_at _ b k)
      (fun b => cosOf_coe _ b _ (ht b)) (fun b => sinOf_coe _ b _ (ht b)))

/-- The second rotation at reals. -/
theorem rot02_coe (x : Fin 4 → Cols) : rot02 (emb x) = emb (fun b => Cert.Pose.turn 0 2 (x b)) := by
  have ht : ∀ b, tan (row0 (emb x).1) (row2 (emb x).1) (ix3 b 0 0) = ((Cert.Pose.ang 0 2 (x b).1 : ℝ) : EReal) := fun b =>
    tan_coe _ _ b ((x b).1 0) ((x b).1 2) (fun k => row0_at _ b k) (fun k => row2_at _ b k)
  exact Prod.ext
    (turnRows_coe 0 2 (by decide) x _ _ _ _ _ _ (fun b k => row0_at _ b k) (fun b k => row2_at _ b k)
      (fun b => cosOf_coe _ b _ (ht b)) (fun b => sinOf_coe _ b _ (ht b)))
    (turnCols_coe 0 2 (by decide) x _ _ _ _ _ _ (fun b k => col0_at _ b k) (fun b k => col2_at _ b k)
      (fun b => cosOf_coe _ b _ (ht b)) (fun b => sinOf_coe _ b _ (ht b)))

/-- The third rotation at reals. -/
theorem rot12_coe (x : Fin 4 → Cols) : rot12 (emb x) = emb (fun b => Cert.Pose.turn 1 2 (x b)) := by
  have ht : ∀ b, tan (row1 (emb x).1) (row2 (emb x).1) (ix3 b 0 0) = ((Cert.Pose.ang 1 2 (x b).1 : ℝ) : EReal) := fun b =>
    tan_coe _ _ b ((x b).1 1) ((x b).1 2) (fun k => row1_at _ b k) (fun k => row2_at _ b k)
  exact Prod.ext
    (turnRows_coe 1 2 (by decide) x _ _ _ _ _ _ (fun b k => row1_at _ b k) (fun b k => row2_at _ b k)
      (fun b => cosOf_coe _ b _ (ht b)) (fun b => sinOf_coe _ b _ (ht b)))
    (turnCols_coe 1 2 (by decide) x _ _ _ _ _ _ (fun b k => col1_at _ b k) (fun b k => col2_at _ b k)
      (fun b => cosOf_coe _ b _ (ht b)) (fun b => sinOf_coe _ b _ (ht b)))

/-- A trip at reals is a sweep. -/
theorem trip_coe (x : Fin 4 → Cols) : trip (emb x) = emb (fun b => Cert.Pose.sweep (x b)) := by
  rw [trip_eq, rot01_coe, rot02_coe, rot12_coe]
  rfl

/-- The loop at reals is four sweeps. -/
theorem fold_coe (x : Fin 4 → Cols) :
    Scf.fold (n := k0_t1_loop.trips) (fun _ => trip (F := Ideal)) (emb x) = emb (fun b => Cert.Pose.sweep^[4] (x b)) := by
  rw [Scf.fold_eq, show k0_t1_loop.trips = 4 from rfl]
  simp only [List.finRange_succ, List.finRange_zero, List.map_nil, List.map_cons, List.foldl_cons, List.foldl_nil, trip_coe]
  rfl

end Cert.Kernel2Ideal.Pose

end
-- ==== Proof.Pose.Fit.lean ====
/- The pose over the reals: the centroids, the covariance, the rotation read off the sweeps' columns, the
   translation, and the two facts that let the two programs agree on the rotation's sign. -/
module

public import proofs.«01_k».proof.Proof.Pose.Plane

@[expose] public section

noncomputable section

namespace Cert.Pose

open Idealize.ShloMosaic

/-- The weight of a point: one over the count of points, over one plus the small word. -/
def wgt : ℝ := 134217728 / 274880655723

/-- The centroid of a cloud. -/
def cen (x : Fin 3 → Fin 2048 → ℝ) (k : Fin 3) : ℝ := (∑ n, x k n) * wgt

/-- The covariance of two clouds, by columns. -/
def cova (p q : Fin 3 → Fin 2048 → ℝ) : Fin 3 → Fin 3 → ℝ := fun j i =>
  (∑ n, (q j n - cen q j) * (p i n - cen p i)) * wgt

/-- The identity's columns. -/
def idm : Fin 3 → Fin 3 → ℝ := fun j k => if j = k then 1 else 0

/-- A column over its length. -/
def uni (a : Fin 3 → Fin 3 → ℝ) : Fin 3 → Fin 3 → ℝ := fun j k => a j k / √(dot (a j) (a j))

/-- The index of the shortest column, the first of them on a tie. -/
def small (a : Fin 3 → Fin 3 → ℝ) : Fin 3 :=
  if dot (a 0) (a 0) ≤ dot (a 1) (a 1) ∧ dot (a 0) (a 0) ≤ dot (a 2) (a 2) then 0
  else if dot (a 1) (a 1) ≤ dot (a 2) (a 2) then 1 else 2

/-- The product `V Uᵀ`, orthogonal only in the limit of many sweeps. -/
def posm (x : Cols) : Fin 3 → Fin 3 → ℝ := fun i k =>
  x.2 0 i * uni x.1 0 k + x.2 1 i * uni x.1 1 k + x.2 2 i * uni x.1 2 k

/-- The same with the shortest column's term negated. -/
def negm (x : Cols) : Fin 3 → Fin 3 → ℝ := fun i k =>
  posm x i k - 2 * (x.2 (small x.1) i * uni x.1 (small x.1) k)

/-- The rotation: the one of the two whose determinant is positive, by the covariance's sign. -/
def fit (K : Fin 3 → Fin 3 → ℝ) (x : Cols) : Fin 3 → Fin 3 → ℝ := fun i k => if 0 < det K then posm x i k else negm x i k

/-- The sweeps' result on a covariance. -/
def swp (K : Fin 3 → Fin 3 → ℝ) : Cols := sweep^[4] (K, idm)

/-- The translation. -/
def mov (R : Fin 3 → Fin 3 → ℝ) (p q : Fin 3 → ℝ) (i : Fin 3) : ℝ :=
  q i - (R i 0 * p 0 + R i 1 * p 1 + R i 2 * p 2)

/-- Four sweeps keep both determinants. -/
theorem det_swp (K : Fin 3 → Fin 3 → ℝ) : det (swp K).1 = det K ∧ det (swp K).2 = 1 := by
  have h : ∀ n : ℕ, det (sweep^[n] (K, idm)).1 = det K ∧ det (sweep^[n] (K, idm)).2 = det idm := by
    intro n
    induction n with
    | zero => exact ⟨rfl, rfl⟩
    | succ n ih =>
      rw [Function.iterate_succ_apply']
      exact ⟨(det_sweep _).1.trans ih.1, (det_sweep _).2.trans ih.2⟩
  exact ⟨(h 4).1, (h 4).2.trans (by simp [det, idm])⟩

/-- The columns of a nonsingular matrix have positive length. -/
theorem len_pos (a : Fin 3 → Fin 3 → ℝ) (h : det a ≠ 0) (j : Fin 3) : 0 < dot (a j) (a j) := by
  have h0 : 0 ≤ dot (a j) (a j) := Finset.sum_nonneg fun k _ => mul_self_nonneg _
  refine lt_of_le_of_ne h0 fun he => h ?_
  have hz : ∀ k, a j k = 0 := by
    intro k
    have := (Finset.sum_eq_zero_iff_of_nonneg (fun k _ => mul_self_nonneg (a j k))).1 he.symm k (Finset.mem_univ k)
    exact mul_self_eq_zero.1 this
  fin_cases j
  · simp only [Fin.zero_eta] at hz; simp [det, hz]
  · simp only [Fin.mk_one] at hz; simp [det, hz]
  · simp only [Fin.reduceFinMk] at hz; simp [det, hz]

/-- The determinant by rows, as the second program writes it. -/
def detr (m : Fin 3 → Fin 3 → ℝ) : ℝ :=
  m 0 0 * (m 1 1 * m 2 2 - m 1 2 * m 2 1) - m 0 1 * (m 1 0 * m 2 2 - m 1 2 * m 2 0) + m 0 2 * (m 1 0 * m 2 1 - m 1 1 * m 2 0)

/-- The determinant of `V Uᵀ`. -/
theorem detr_posm (x : Cols) : detr (posm x) =
    det x.2 * det x.1 * (((√(dot (x.1 0) (x.1 0)))⁻¹) * (√(dot (x.1 1) (x.1 1)))⁻¹ * (√(dot (x.1 2) (x.1 2)))⁻¹) := by
  simp only [detr, posm, det, uni, div_eq_mul_inv]
  generalize (√(dot (x.1 0) (x.1 0)))⁻¹ = p
  generalize (√(dot (x.1 1) (x.1 1)))⁻¹ = q
  generalize (√(dot (x.1 2) (x.1 2)))⁻¹ = r
  ring

/-- The sign of the determinant of `V Uᵀ` is that of the covariance. -/
theorem detr_pos_iff (K : Fin 3 → Fin 3 → ℝ) (h : det K ≠ 0) : 0 < detr (posm (swp K)) ↔ 0 < det K := by
  have hK := (det_swp K).1
  have hp : ∀ j, 0 < (√(dot ((swp K).1 j) ((swp K).1 j)))⁻¹ := fun j =>
    inv_pos.2 (Real.sqrt_pos.2 (len_pos _ (by rw [hK]; exact h) j))
  rw [detr_posm, (det_swp K).2, hK, one_mul]
  exact mul_pos_iff_of_pos_right (mul_pos (mul_pos (hp 0) (hp 1)) (hp 2))

end Cert.Pose

end
-- ==== Proof.Pose.KernelValue.lean ====
/- The kernel's two results on clouds of reals. -/
module

public import proofs.«01_k».proof.Proof.Pose.TripValue
public import proofs.«01_k».proof.Proof.Pose.Fit

@[expose] public section

set_option maxRecDepth 16384

noncomputable section

namespace Cert.Kernel2Ideal.Pose

open Cert.Kernel2Ideal Cert.Kernel2Ideal.Gen Idealize.ShloMosaic Idealize.ShloMosaic.TcCoe Idealize.SL.Sem
open Cert.Pose (Cols)

/-! ## The steps, element by element -/

/-- The first centroid, element by element. -/
theorem cenA_at (x : Vec Ideal S4x3x2048 .f32) (b : Fin 4) (k : Fin 3) :
    k0_pay48 x (ix3 b k 0) = (∑ n, x (ix3 b k n)) * Named.named κ "weight" 973078360#32 := by
  pointwise [k0_pay48]
/-- The second centroid, element by element. -/
theorem cenB_at (x : Vec Ideal S4x3x2048 .f32) (b : Fin 4) (k : Fin 3) :
    k0_pay49 x (ix3 b k 0) = (∑ n, x (ix3 b k n)) * Named.named κ "weight" 973078360#32 := by
  pointwise [k0_pay49]
/-- The first cloud centred. -/
theorem ca_at (x : Vec Ideal S4x3x2048 .f32) (b : Fin 4) (k : Fin 3) (n : Fin 2048) :
    k0_pay50 x (ix3 b k n) = x (ix3 b k n) - k0_pay48 x (ix3 b k 0) := by
  pointwise [k0_pay50]
/-- The second cloud centred. -/
theorem cb_at (x : Vec Ideal S4x3x2048 .f32) (b : Fin 4) (k : Fin 3) (n : Fin 2048) :
    k0_pay51 x (ix3 b k n) = x (ix3 b k n) - k0_pay49 x (ix3 b k 0) := by
  pointwise [k0_pay51]
/-- The first pair's covariance in its place. -/
theorem cov0_at (x y : Vec Ideal S4x3x2048 .f32) (b : Fin 4) (j i : Fin 3) : k0_pay52 x y (ix3 b j i) =
    Scalar.select (IntOp.cmpi CmpIPredicate.eq (BitVec.ofNat 32 b.val) 0#32)
      ((∑ n, k0_pay51 y (ix3 0 j n) * k0_pay50 x (ix3 0 i n)) * Named.named κ "weight" 973078360#32) 0 := by
  pointwise [k0_pay52]
/-- The second pair's covariance. -/
theorem cov1_at (x y : Vec Ideal S4x3x2048 .f32) (j i : Fin 3) : k0_pay53 x y (ix2 j i) =
    (∑ n, k0_pay51 y (ix3 1 j n) * k0_pay50 x (ix3 1 i n)) * Named.named κ "weight" 973078360#32 := by
  pointwise [k0_pay53]
/-- The other pairs' covariances in their places. -/
theorem cov_step (x y : FVec Ideal S4x3x2048 .f32) (z : FVec Ideal S4x3x3 .f32) (w : FVec Ideal S3x3 .f32) (b : Fin 4) (j i : Fin 3) :
    k0_pay54 x y z w (iota .tc S4x1x1 32 [0] iota_S4x1x1_d0_w32) (ix3 b j i) =
    z (ix3 b j i) + Scalar.select (IntOp.cmpi CmpIPredicate.eq (BitVec.ofNat 32 b.val) 1#32) (w (ix2 j i)) 0 +
        Scalar.select (IntOp.cmpi CmpIPredicate.eq (BitVec.ofNat 32 b.val) 2#32)
          ((∑ n, y (ix3 2 j n) * x (ix3 2 i n)) * Named.named κ "weight" 973078360#32) 0 +
      Scalar.select (IntOp.cmpi CmpIPredicate.eq (BitVec.ofNat 32 b.val) 3#32)
        ((∑ n, y (ix3 3 j n) * x (ix3 3 i n)) * Named.named κ "weight" 973078360#32) 0 := by
  pointwise [k0_pay54]
/-- The covariance, element by element. -/
theorem cov_at (x y : Vec Ideal S4x3x2048 .f32) (b : Fin 4) (j i : Fin 3) : cov x y (ix3 b j i) =
    (∑ n, k0_pay51 y (ix3 b j n) * k0_pay50 x (ix3 b i n)) * Named.named κ "weight" 973078360#32 := by
  rw [cov, cov_step, cov0_at, cov1_at]
  fin_cases b <;> simp [Scalar.select, IntOp.cmpi]
/-- The identity, element by element. -/
theorem idm_at (b : Fin 4) (k n : Fin 3) :
    k0_pay55 (F := Ideal) (iota .tc S1x3x3 32 [1] iota_S1x3x3_d1_w32) (ix3 b k n) = ((Cert.Pose.idm n k : ℝ) : EReal) := by
  have e : k0_pay55 (F := Ideal) (iota .tc S1x3x3 32 [1] iota_S1x3x3_d1_w32) (ix3 b k n) =
      Scalar.select (IntOp.cmpi CmpIPredicate.eq (BitVec.ofNat 32 k.val) (BitVec.ofNat 32 n.val)) 1 0 := by
    pointwise [k0_pay55]
  rw [e]
  fin_cases k <;> fin_cases n <;> simp [Scalar.select, IntOp.cmpi, Cert.Pose.idm]
/-- The rows' squared lengths. -/
theorem len_at (A : FVec Ideal S4x3x3 .f32) (b : Fin 4) (j : Fin 3) :
    k0_pay58 A (ix3 b j 0) = ∑ k, A (ix3 b j k) * A (ix3 b j k) := by
  pointwise [k0_pay58]
/-- The rows over their lengths. -/
theorem unit_at (A : FVec Ideal S4x3x3 .f32) (b : Fin 4) (j k : Fin 3) :
    k0_pay59 A (ix3 b j k) = Ideal.div (A (ix3 b j k)) (Ideal.sqrt (k0_pay58 A (ix3 b j 0))) := by
  pointwise [k0_pay59]
/-- The product `V Uᵀ`. -/
theorem pos_at (A V : FVec Ideal S4x3x3 .f32) (b : Fin 4) (i k : Fin 3) :
    k0_pay60 A V (ix3 b i k) = V (ix3 b i 0) * k0_pay59 A (ix3 b 0 k) + V (ix3 b i 1) * k0_pay59 A (ix3 b 1 k) +
      V (ix3 b i 2) * k0_pay59 A (ix3 b 2 k) := by
  pointwise [k0_pay60]
/-- The first row's mark as the shortest. -/
theorem is0_at (A : FVec Ideal S4x3x3 .f32) (b : Fin 4) : k0_pay64 A (ix3 b 0 0) =
    Scalar.select (IntOp.andi (BitVec.ofBool (decide (k0_pay58 A (ix3 b 0 0) ≤ k0_pay58 A (ix3 b 1 0))))
        (BitVec.ofBool (decide (k0_pay58 A (ix3 b 0 0) ≤ k0_pay58 A (ix3 b 2 0))))) 1 0 := by
  pointwise [k0_pay64, k0_pay61, k0_pay62, k0_pay63]
/-- The middle row's mark as the shortest. -/
theorem is1_at (A : FVec Ideal S4x3x3 .f32) (b : Fin 4) : k0_pay65 A (ix3 b 0 0) =
    Scalar.select (IntOp.andi (BitVec.ofBool (decide (k0_pay58 A (ix3 b 1 0) < k0_pay58 A (ix3 b 0 0))))
        (BitVec.ofBool (decide (k0_pay58 A (ix3 b 1 0) ≤ k0_pay58 A (ix3 b 2 0))))) 1 0 := by
  pointwise [k0_pay65, k0_pay61, k0_pay62, k0_pay63]
/-- The matrix with the shortest column's term negated. -/
theorem neg_at (A V : FVec Ideal S4x3x3 .f32) (b : Fin 4) (j k : Fin 3) :
    k0_pay67 V (k0_pay59 A) (k0_pay60 A V) (k0_pay62 A) (k0_pay63 A) (k0_pay64 A) (k0_pay65 A) (k0_pay66 A) (ix3 b j k) =
    k0_pay60 A V (ix3 b j k) -
      Ideal.ofBits FTy.f32 1073741824#32 *
        ((k0_pay64 A (ix3 b 0 0) * V (ix3 b j 0) + k0_pay65 A (ix3 b 0 0) * V (ix3 b j 1) +
            Scalar.select
              (IntOp.andi (BitVec.ofBool (decide (k0_pay58 A (ix3 b 2 0) < k0_pay58 A (ix3 b 0 0))))
                (BitVec.ofBool (decide (k0_pay58 A (ix3 b 2 0) < k0_pay58 A (ix3 b 1 0)))))
              (V (ix3 b j 2)) 0) *
          (k0_pay64 A (ix3 b 0 0) * k0_pay59 A (ix3 b 0 k) + k0_pay65 A (ix3 b 0 0) * k0_pay59 A (ix3 b 1 k) +
            Scalar.select
              (IntOp.andi (BitVec.ofBool (decide (k0_pay58 A (ix3 b 2 0) < k0_pay58 A (ix3 b 0 0))))
                (BitVec.ofBool (decide (k0_pay58 A (ix3 b 2 0) < k0_pay58 A (ix3 b 1 0)))))
              (k0_pay59 A (ix3 b 2 k)) 0)) := by
  pointwise [k0_pay67, k0_pay61, k0_pay62, k0_pay63, k0_pay66]
/-- The choice between the two. -/
theorem pick_at (K P Q : FVec Ideal S4x3x3 .f32) (b : Fin 4) (j k : Fin 3) :
    k0_pay72 K P Q (k0_pay68 K) (k0_pay69 K) (k0_pay70 K) (k0_pay71 K) (ix3 b j k) = Q (ix3 b j k) +
      (if 0 < K (ix3 b 0 0) * (K (ix3 b 1 1) * K (ix3 b 2 2) - K (ix3 b 2 1) * K (ix3 b 1 2)) -
                  K (ix3 b 1 0) * (K (ix3 b 0 1) * K (ix3 b 2 2) - K (ix3 b 2 1) * K (ix3 b 0 2)) +
                K (ix3 b 2 0) * (K (ix3 b 0 1) * K (ix3 b 1 2) - K (ix3 b 1 1) * K (ix3 b 0 2)) then 1 else 0) *
        (P (ix3 b j k) - Q (ix3 b j k)) := by
  pointwise [k0_pay72, k0_pay68, k0_pay69, k0_pay70, k0_pay71]
/-- The translation, element by element. -/
theorem shift_at (a c : FVec Ideal S4x3x1 .f32) (R : FVec Ideal S4x3x3 .f32) (b : Fin 4) (i : Fin 3) :
    shift a c R (ix3 b i 0) = c (ix3 b i 0) -
      (R (ix3 b i 0) * a (ix3 b 0 0) + R (ix3 b i 1) * a (ix3 b 1 0) + R (ix3 b i 2) * a (ix3 b 2 0)) := by
  have e : shift a c R (ix3 b i 0) = c (ix3 b i 0) - ∑ x : Fin 3, R (ix3 b i x) *
          (Scalar.select (IntOp.cmpi CmpIPredicate.eq (BitVec.ofNat 32 x.val) 0#32)
                (∑ x : Fin 3, Scalar.select (IntOp.cmpi CmpIPredicate.eq (BitVec.ofNat 32 x.val) 0#32) (a (ix3 b x 0)) 0) 0 +
              Scalar.select (IntOp.cmpi CmpIPredicate.eq (BitVec.ofNat 32 x.val) 1#32)
                (∑ x : Fin 3, Scalar.select (IntOp.cmpi CmpIPredicate.eq (BitVec.ofNat 32 x.val) 1#32) (a (ix3 b x 0)) 0) 0 +
            Scalar.select (IntOp.cmpi CmpIPredicate.eq (BitVec.ofNat 32 x.val) 2#32)
              (∑ x : Fin 3, Scalar.select (IntOp.cmpi CmpIPredicate.eq (BitVec.ofNat 32 x.val) 2#32) (a (ix3 b x 0)) 0) 0) := by
    pointwise [shift, k0_pay1, k0_pay73, k0_pay74, k0_pay75]
  rw [e]
  simp [Fin.sum_univ_three, Scalar.select, IntOp.cmpi]

/-! ## At reals -/

/-- Clouds of reals. -/
def cloud (p : Fin 4 → Fin 3 → Fin 2048 → ℝ) : Vec Ideal S4x3x2048 .f32 := fun l => ((p (l 0) (l 1) (l 2) : ℝ) : EReal)

/-- The named weight's value. -/
theorem weight_eq : Named.named (F := Ideal) κ "weight" (φ := .f32) 973078360#32 = ((Cert.Pose.wgt : ℝ) : EReal) := rfl

variable (p q : Fin 4 → Fin 3 → Fin 2048 → ℝ)

/-- The first centroid at reals. -/
theorem cenA_coe (b : Fin 4) (k : Fin 3) : k0_pay48 (cloud p) (ix3 b k 0) = ((Cert.Pose.cen (p b) k : ℝ) : EReal) := by
  rw [cenA_at, weight_eq, Cert.Pose.cen, EReal.coe_mul, ← Cert.Pose.sum_coe]
  rfl
/-- The second centroid at reals. -/
theorem cenB_coe (b : Fin 4) (k : Fin 3) : k0_pay49 (cloud p) (ix3 b k 0) = ((Cert.Pose.cen (p b) k : ℝ) : EReal) := by
  rw [cenB_at, weight_eq, Cert.Pose.cen, EReal.coe_mul, ← Cert.Pose.sum_coe]
  rfl
/-- The covariance at reals. -/
theorem cov_coe (b : Fin 4) (j i : Fin 3) :
    cov (F := Ideal) (cloud p) (cloud q) (ix3 b j i) = ((Cert.Pose.cova (p b) (q b) j i : ℝ) : EReal) := by
  rw [cov_at, weight_eq, Cert.Pose.cova, EReal.coe_mul, ← Cert.Pose.sum_coe]
  refine congrArg (fun u : EReal => u * (Cert.Pose.wgt : EReal)) (Finset.sum_congr rfl fun n _ => ?_)
  rw [ca_at, cb_at, cenA_coe, cenB_coe, EReal.coe_mul, EReal.coe_sub, EReal.coe_sub]
  rfl

/-- What the loop leaves at reals. -/
theorem swept_coe : swept (cloud p) (cloud q) = emb (fun b => Cert.Pose.swp (Cert.Pose.cova (p b) (q b))) := by
  have h : (cov (cloud p) (cloud q), k0_pay55 (F := Ideal) (iota .tc S1x3x3 32 [1] iota_S1x3x3_d1_w32))
      = emb (fun b => (Cert.Pose.cova (p b) (q b), Cert.Pose.idm)) := by
    refine Prod.ext ?_ ?_
    · funext l; rw [eq_ix3 l]; exact cov_coe p q _ _ _
    · funext l; rw [eq_ix3 l]; exact idm_at _ _ _
  rw [swept, h, fold_coe]
  rfl

section
variable (x : Fin 4 → Cols) (h : ∀ b, Cert.Pose.det (x b).1 ≠ 0)

/-- The squared lengths at reals. -/
theorem len_coe (b : Fin 4) (j : Fin 3) :
    k0_pay58 (emb x).1 (ix3 b j 0) = ((Cert.Pose.dot ((x b).1 j) ((x b).1 j) : ℝ) : EReal) := by
  rw [len_at, Cert.Pose.dot, ← Cert.Pose.sum3_coe]
  rfl

include h in
/-- The unit rows at reals. -/
theorem unit_coe (b : Fin 4) (j k : Fin 3) :
    k0_pay59 (emb x).1 (ix3 b j k) = ((Cert.Pose.uni (x b).1 j k : ℝ) : EReal) := by
  have hp := Cert.Pose.len_pos _ (h b) j
  rw [unit_at, len_coe, Cert.Pose.sqrt_coe _ hp.le]
  exact Cert.Pose.div_coe _ _ (Real.sqrt_pos.2 hp).ne'

include h in
/-- `V Uᵀ` at reals. -/
theorem pos_coe (b : Fin 4) (i k : Fin 3) :
    k0_pay60 (emb x).1 (emb x).2 (ix3 b i k) = ((Cert.Pose.posm (x b) i k : ℝ) : EReal) := by
  rw [pos_at, unit_coe x h, unit_coe x h, unit_coe x h, Cert.Pose.posm]
  push_cast
  rfl

include h in
/-- The matrix with the negated term at reals. -/
theorem neg_coe (b : Fin 4) (i k : Fin 3) :
    k0_pay67 (emb x).2 (k0_pay59 (emb x).1) (k0_pay60 (emb x).1 (emb x).2) (k0_pay62 (emb x).1) (k0_pay63 (emb x).1)
        (k0_pay64 (emb x).1) (k0_pay65 (emb x).1) (k0_pay66 (emb x).1) (ix3 b i k)
      = ((Cert.Pose.negm (x b) i k : ℝ) : EReal) := by
  have e : ∀ j, (emb x).2 (ix3 b i j) = (((x b).2 j i : ℝ) : EReal) := fun j => rfl
  rw [neg_at, is0_at, is1_at, pos_coe x h, unit_coe x h, unit_coe x h, unit_coe x h, e, e, e, len_coe, len_coe, len_coe,
    Cert.Pose.word_two, Cert.Pose.negm, Cert.Pose.small]
  simp only [EReal.coe_le_coe_iff, EReal.coe_lt_coe_iff]
  generalize Cert.Pose.dot ((x b).1 0) ((x b).1 0) = s0
  generalize Cert.Pose.dot ((x b).1 1) ((x b).1 1) = s1
  generalize Cert.Pose.dot ((x b).1 2) ((x b).1 2) = s2
  have c : ∀ u v : ℝ, (u ≤ v ∧ ¬ v < u) ∨ (v < u ∧ ¬ u ≤ v) := fun u v =>
    (le_or_gt u v).imp (fun h => ⟨h, not_lt.2 h⟩) (fun h => ⟨h, not_le.2 h⟩)
  rcases c s0 s1 with ⟨h01, g01⟩ | ⟨h01, g01⟩ <;> rcases c s0 s2 with ⟨h02, g02⟩ | ⟨h02, g02⟩ <;>
    rcases c s1 s2 with ⟨h12, g12⟩ | ⟨h12, g12⟩ <;>
    first
    | (exfalso; linarith)
    | (simp [Scalar.select, IntOp.andi, h01, h02, h12, g01, g02, g12]
       try norm_cast)

include h in
/-- The rotation at reals. -/
theorem turn_coe (K : FVec Ideal S4x3x3 .f32) (k : Fin 4 → Fin 3 → Fin 3 → ℝ) (hK : ∀ b j i, K (ix3 b j i) = ((k b j i : ℝ) : EReal))
    (b : Fin 4) (i j : Fin 3) : turn K (emb x).1 (emb x).2 (ix3 b i j) = ((Cert.Pose.fit (k b) (x b) i j : ℝ) : EReal) := by
  rw [turn, pick_at, neg_coe x h, pos_coe x h]
  simp only [hK, ← EReal.coe_mul, ← EReal.coe_sub, ← EReal.coe_add]
  rw [show ((0 : EReal) = ((0 : ℝ) : EReal)) from rfl]
  simp only [EReal.coe_lt_coe_iff]
  rw [Cert.Pose.fit, Cert.Pose.det]
  split_ifs with hd
  · rw [one_mul, ← EReal.coe_add]; congr 1; ring
  · rw [EReal.coe_zero, zero_mul, add_zero]

end

variable (h : ∀ b, Cert.Pose.det (Cert.Pose.cova (p b) (q b)) ≠ 0)

include h in
/-- The kernel's rotation at reals. -/
theorem rot_coe (b : Fin 4) (i j : Fin 3) : rot (F := Ideal) (cloud p) (cloud q) (ix3 b i j)
    = ((Cert.Pose.fit (Cert.Pose.cova (p b) (q b)) (Cert.Pose.swp (Cert.Pose.cova (p b) (q b))) i j : ℝ) : EReal) := by
  rw [rot, swept_coe]
  exact turn_coe _ (fun b => by rw [(Cert.Pose.det_swp _).1]; exact h b) _ _ (fun b j i => cov_coe p q b j i) b i j

include h in
/-- The kernel's translation at reals. -/
theorem trans_coe (b : Fin 4) (i : Fin 3) : trans (F := Ideal) (cloud p) (cloud q) (ix3 b i 0)
    = ((Cert.Pose.mov (Cert.Pose.fit (Cert.Pose.cova (p b) (q b)) (Cert.Pose.swp (Cert.Pose.cova (p b) (q b))))
        (Cert.Pose.cen (p b)) (Cert.Pose.cen (q b)) i : ℝ) : EReal) := by
  rw [trans, shift_at, cenB_coe, cenA_coe, cenA_coe, cenA_coe, rot_coe p q h, rot_coe p q h, rot_coe p q h, Cert.Pose.mov]
  push_cast
  rfl

end Cert.Kernel2Ideal.Pose

end
-- ==== Proof.Pose.HostTurn.lean ====
/- The second reference's rotation of two columns, as one function of the columns, and its value at reals. -/
module

public import proofs.«01_k».proof.Proof.Gen.Reference2Ideal.Step
public import proofs.«01_k».proof.Proof.Pose.Plane

@[expose] public section

set_option maxRecDepth 16384

noncomputable section

namespace Cert.Reference2Ideal.Pose

open Cert.Reference2Ideal Cert.Reference2Ideal.Gen Idealize.ShloMosaic
open Cert.Pose (Cols)

variable {F : FTy → Type} [FloatOps F]

/-- The inner products of two columns. -/
def prod (p q : FVec F S4x3 .f32) : FVec F S4x1 .f32 :=
  broadcastInDim S4x1 ![0] bcast_S4_S4x1_0 (Host.reduceAdd (mulf p q) (constant S_ .f32 0x00000000#32) reducesTo_S4x3_S4_d1 h_S_)

/-- A number in every element of a column. -/
def fill (w : BitVec 32) : FVec F S4x1 .f32 := broadcastInDim S4x1 ![] bcast_S_S4x1 (constant S_ .f32 w)

/-- The cotangent of the doubled angle. -/
def cot2 (a b g : FVec F S4x1 .f32) : FVec F S4x1 .f32 := Host.divf (subf b a) (mulf (fill 0x40000000#32) g)

/-- The tangent from it. -/
def tng (u g : FVec F S4x1 .f32) : FVec F S4x1 .f32 :=
  select (cmpf .oeq g (fill 0x00000000#32)) (fill 0x00000000#32)
    (Host.divf (select (cmpf .oge u (fill 0x00000000#32)) (fill 0x3F800000#32) (fill 0xBF800000#32))
      (addf (Host.absf u) (Host.sqrt (addf (fill 0x3F800000#32) (mulf u u)))))

/-- The tangent for two columns. -/
def tng2 (p q : FVec F S4x3 .f32) : FVec F S4x1 .f32 := tng (cot2 (prod p p) (prod q q) (prod p q)) (prod p q)

/-- The cosine from the tangent. -/
def csn (t : FVec F S4x1 .f32) : FVec F S4x1 .f32 := Host.divf (fill 0x3F800000#32) (Host.sqrt (addf (fill 0x3F800000#32) (mulf t t)))

/-- A factor for each pair of clouds, over a column. -/
def over (c : FVec F S4x1 .f32) : FVec F S4x3 .f32 := broadcastInDim S4x3 ![0, 1] bcast_S4x1_S4x3_0_1 c

/-- The first of two columns turned. -/
def fst2 (c s : FVec F S4x1 .f32) (p q : FVec F S4x3 .f32) : FVec F S4x3 .f32 := subf (mulf (over c) p) (mulf (over s) q)

/-- The second of two columns turned. -/
def snd2 (c s : FVec F S4x1 .f32) (p q : FVec F S4x3 .f32) : FVec F S4x3 .f32 := addf (mulf (over s) p) (mulf (over c) q)

/-! ## The trip's values as these functions -/

section
variable (j : ℕ) (s : Step.State F)

/-- The first rotation's tangent. -/
def t01 : FVec F S4x1 .f32 := tng2 s.main_v55_2 s.main_v55_3
/-- The first column after the first rotation. -/
theorem b56_eq : Step.b56 j s = fst2 (csn (t01 s)) (mulf (t01 s) (csn (t01 s))) s.main_v55_2 s.main_v55_3 := rfl
/-- The second column after the first rotation. -/
theorem b61_eq : Step.b61 j s = snd2 (csn (t01 s)) (mulf (t01 s) (csn (t01 s))) s.main_v55_2 s.main_v55_3 := rfl
/-- The product's first column after the first rotation. -/
theorem b66_eq : Step.b66 j s = fst2 (csn (t01 s)) (mulf (t01 s) (csn (t01 s))) s.main_v55_5 s.main_v55_6 := rfl
/-- The product's second column after the first rotation. -/
theorem b71_eq : Step.b71 j s = snd2 (csn (t01 s)) (mulf (t01 s) (csn (t01 s))) s.main_v55_5 s.main_v55_6 := rfl

/-- The second rotation's tangent. -/
def t02 : FVec F S4x1 .f32 := tng2 (Step.b56 j s) s.main_v55_4
/-- The first column after the second rotation. -/
theorem b126_eq : Step.b126 j s = fst2 (csn (t02 j s)) (mulf (t02 j s) (csn (t02 j s))) (Step.b56 j s) s.main_v55_4 := rfl
/-- The last column after the second rotation. -/
theorem b131_eq : Step.b131 j s = snd2 (csn (t02 j s)) (mulf (t02 j s) (csn (t02 j s))) (Step.b56 j s) s.main_v55_4 := rfl
/-- The product's first column after the second rotation. -/
theorem b136_eq : Step.b136 j s = fst2 (csn (t02 j s)) (mulf (t02 j s) (csn (t02 j s))) (Step.b66 j s) s.main_v55_7 := rfl
/-- The product's last column after the second rotation. -/
theorem b141_eq : Step.b141 j s = snd2 (csn (t02 j s)) (mulf (t02 j s) (csn (t02 j s))) (Step.b66 j s) s.main_v55_7 := rfl

/-- The third rotation's tangent. -/
def t12 : FVec F S4x1 .f32 := tng2 (Step.b61 j s) (Step.b131 j s)
/-- The second column after the third rotation. -/
theorem b196_eq : Step.b196 j s = fst2 (csn (t12 j s)) (mulf (t12 j s) (csn (t12 j s))) (Step.b61 j s) (Step.b131 j s) := rfl
/-- The last column after the third rotation. -/
theorem b201_eq : Step.b201 j s = snd2 (csn (t12 j s)) (mulf (t12 j s) (csn (t12 j s))) (Step.b61 j s) (Step.b131 j s) := rfl
/-- The product's second column after the third rotation. -/
theorem b206_eq : Step.b206 j s = fst2 (csn (t12 j s)) (mulf (t12 j s) (csn (t12 j s))) (Step.b71 j s) (Step.b141 j s) := rfl
/-- The product's last column after the third rotation. -/
theorem b211_eq : Step.b211 j s = snd2 (csn (t12 j s)) (mulf (t12 j s) (csn (t12 j s))) (Step.b71 j s) (Step.b141 j s) := rfl
end

/-! ## Element by element -/

/-- The inner products, element by element. -/
theorem prod_at (p q : FVec Ideal S4x3 .f32) (b : Fin 4) : prod p q (ix2 b 0) = ∑ k, p (ix2 b k) * q (ix2 b k) := by
  pointwise [prod]
/-- The cotangent, element by element. -/
theorem cot2_at (u v g : FVec Ideal S4x1 .f32) (b : Fin 4) : cot2 u v g (ix2 b 0) =
    Ideal.div (v (ix2 b 0) - u (ix2 b 0)) (Ideal.ofBits FTy.f32 1073741824#32 * g (ix2 b 0)) := by
  pointwise [cot2, fill]
/-- The tangent, element by element. -/
theorem tng_at (u g : FVec Ideal S4x1 .f32) (b : Fin 4) : tng u g (ix2 b 0) =
    if g (ix2 b 0) = 0 then 0 else
      Ideal.div (if 0 ≤ u (ix2 b 0) then 1 else Ideal.ofBits FTy.f32 3212836864#32)
        (FloatOps.absf (u (ix2 b 0)) + Ideal.sqrt (1 + u (ix2 b 0) * u (ix2 b 0))) := by
  pointwise [tng, fill]
/-- The cosine, element by element. -/
theorem csn_at (t : FVec Ideal S4x1 .f32) (b : Fin 4) :
    csn t (ix2 b 0) = Ideal.div 1 (Ideal.sqrt (1 + t (ix2 b 0) * t (ix2 b 0))) := by
  pointwise [csn, fill]
/-- The first turned column, element by element. -/
theorem fst2_at (c s : FVec Ideal S4x1 .f32) (p q : FVec Ideal S4x3 .f32) (b : Fin 4) (k : Fin 3) :
    fst2 c s p q (ix2 b k) = c (ix2 b 0) * p (ix2 b k) - s (ix2 b 0) * q (ix2 b k) := by
  pointwise [fst2, over]
/-- The second turned column, element by element. -/
theorem snd2_at (c s : FVec Ideal S4x1 .f32) (p q : FVec Ideal S4x3 .f32) (b : Fin 4) (k : Fin 3) :
    snd2 c s p q (ix2 b k) = s (ix2 b 0) * p (ix2 b k) + c (ix2 b 0) * q (ix2 b k) := by
  pointwise [snd2, over]

/-! ## At reals -/

/-- A column of reals for each pair of clouds. -/
def col (f : Fin 4 → Fin 3 → ℝ) : FVec Ideal S4x3 .f32 := fun l => ((f (l 0) (l 1) : ℝ) : EReal)

/-- The inner products at reals. -/
theorem prod_coe (f g : Fin 4 → Fin 3 → ℝ) (b : Fin 4) :
    prod (col f) (col g) (ix2 b 0) = ((Cert.Pose.dot (f b) (g b) : ℝ) : EReal) := by
  rw [prod_at, Cert.Pose.dot, ← Cert.Pose.sum3_coe]
  rfl

/-- The tangent at columns of reals. -/
theorem tng2_coe (f g : Fin 4 → Fin 3 → ℝ) (b : Fin 4) : tng2 (col f) (col g) (ix2 b 0)
    = ((Cert.Pose.tanR (Cert.Pose.dot (f b) (f b)) (Cert.Pose.dot (g b) (g b)) (Cert.Pose.dot (f b) (g b)) : ℝ) : EReal) := by
  rw [tng2, tng_at, cot2_at, prod_coe, prod_coe, prod_coe, Cert.Pose.tanR]
  generalize Cert.Pose.dot (f b) (f b) = α
  generalize Cert.Pose.dot (g b) (g b) = β
  generalize Cert.Pose.dot (f b) (g b) = γ
  by_cases h : γ = 0
  · rw [if_pos (by rw [h]; rfl), if_pos h]; rfl
  · rw [if_neg (by exact_mod_cast h), if_neg h, Cert.Pose.word_two, Cert.Pose.word_neg_one, ← EReal.coe_sub, ← EReal.coe_mul,
      Cert.Pose.div_coe _ _ (mul_ne_zero two_ne_zero h), Cert.Pose.abs_coe]
    exact Cert.Pose.tanU_coe _

/-- The cosine at a real. -/
theorem csn_coe (t : FVec Ideal S4x1 .f32) (b : Fin 4) (r : ℝ) (h : t (ix2 b 0) = (r : EReal)) :
    csn t (ix2 b 0) = ((Cert.Pose.cosR r : ℝ) : EReal) := by
  rw [csn_at, h, Cert.Pose.cosR_coe']

/-- The sine at a real. -/
theorem sin_coe (t : FVec Ideal S4x1 .f32) (b : Fin 4) (r : ℝ) (h : t (ix2 b 0) = (r : EReal)) :
    mulf t (csn t) (ix2 b 0) = ((r * Cert.Pose.cosR r : ℝ) : EReal) := by
  have e : mulf t (csn t) (ix2 b 0) = t (ix2 b 0) * csn t (ix2 b 0) := rfl
  rw [e, csn_coe t b r h, h, EReal.coe_mul]

/-- The first turned column at reals. -/
theorem fst2_coe (i j : Fin 3) (c s : FVec Ideal S4x1 .f32) (C S : Fin 4 → ℝ) (m : Fin 4 → Fin 3 → Fin 3 → ℝ)
    (hc : ∀ b, c (ix2 b 0) = ((C b : ℝ) : EReal)) (hs : ∀ b, s (ix2 b 0) = ((S b : ℝ) : EReal)) :
    fst2 c s (col fun b => m b i) (col fun b => m b j) = col fun b => Cert.Pose.mix i j (C b) (S b) (m b) i := by
  funext l
  rw [eq_ix2 l]
  have e : ∀ (b : Fin 4) (k : Fin 3), fst2 c s (col fun b => m b i) (col fun b => m b j) (ix2 b k)
      = ((Cert.Pose.mix i j (C b) (S b) (m b) i k : ℝ) : EReal) := by
    intro b k
    rw [fst2_at, hc, hs, Cert.Pose.mix, if_pos rfl]
    push_cast
    rfl
  exact e _ _

/-- The second turned column at reals. -/
theorem snd2_coe (i j : Fin 3) (hij : j ≠ i) (c s : FVec Ideal S4x1 .f32) (C S : Fin 4 → ℝ) (m : Fin 4 → Fin 3 → Fin 3 → ℝ)
    (hc : ∀ b, c (ix2 b 0) = ((C b : ℝ) : EReal)) (hs : ∀ b, s (ix2 b 0) = ((S b : ℝ) : EReal)) :
    snd2 c s (col fun b => m b i) (col fun b => m b j) = col fun b => Cert.Pose.mix i j (C b) (S b) (m b) j := by
  funext l
  rw [eq_ix2 l]
  have e : ∀ (b : Fin 4) (k : Fin 3), snd2 c s (col fun b => m b i) (col fun b => m b j) (ix2 b k)
      = ((Cert.Pose.mix i j (C b) (S b) (m b) j k : ℝ) : EReal) := by
    intro b k
    rw [snd2_at, hc, hs, Cert.Pose.mix, if_neg hij, if_pos rfl]
    push_cast
    rfl
  exact e _ _

/-- The loop's state at reals. -/
def embs (x : Fin 4 → Cols) : Step.State Ideal :=
  ⟨col fun b => (x b).1 0, col fun b => (x b).1 1, col fun b => (x b).1 2,
    col fun b => (x b).2 0, col fun b => (x b).2 1, col fun b => (x b).2 2⟩

/-- A trip at reals is a sweep. -/
theorem step_coe (j : ℕ) (x : Fin 4 → Cols) : Step.step j (embs x) = embs fun b => Cert.Pose.sweep (x b) := by
  -- after the first rotation
  have ht : ∀ b, t01 (embs x) (ix2 b 0) = ((Cert.Pose.ang 0 1 (x b).1 : ℝ) : EReal) :=
    fun b => tng2_coe (fun b => (x b).1 0) (fun b => (x b).1 1) b
  have h56 : Step.b56 j (embs x) = col fun b => (Cert.Pose.turn 0 1 (x b)).1 0 :=
    (b56_eq j _).trans (fst2_coe 0 1 _ _ _ _ (fun b => (x b).1) (fun b => csn_coe _ b _ (ht b)) (fun b => sin_coe _ b _ (ht b)))
  have h61 : Step.b61 j (embs x) = col fun b => (Cert.Pose.turn 0 1 (x b)).1 1 :=
    (b61_eq j _).trans (snd2_coe 0 1 (by decide) _ _ _ _ (fun b => (x b).1) (fun b => csn_coe _ b _ (ht b)) (fun b => sin_coe _ b _ (ht b)))
  have h66 : Step.b66 j (embs x) = col fun b => (Cert.Pose.turn 0 1 (x b)).2 0 :=
    (b66_eq j _).trans (fst2_coe 0 1 _ _ _ _ (fun b => (x b).2) (fun b => csn_coe _ b _ (ht b)) (fun b => sin_coe _ b _ (ht b)))
  have h71 : Step.b71 j (embs x) = col fun b => (Cert.Pose.turn 0 1 (x b)).2 1 :=
    (b71_eq j _).trans (snd2_coe 0 1 (by decide) _ _ _ _ (fun b => (x b).2) (fun b => csn_coe _ b _ (ht b)) (fun b => sin_coe _ b _ (ht b)))
  have h4 : (embs x).main_v55_4 = col fun b => (Cert.Pose.turn 0 1 (x b)).1 2 := rfl
  have h7 : (embs x).main_v55_7 = col fun b => (Cert.Pose.turn 0 1 (x b)).2 2 := rfl
  -- after the second
  generalize hy : (fun b => Cert.Pose.turn 0 1 (x b)) = y at *
  have hyb : ∀ b, Cert.Pose.turn 0 1 (x b) = y b := fun b => congrFun hy b
  simp only [hyb] at h56 h61 h66 h71 h4 h7
  have ht2 : ∀ b, t02 j (embs x) (ix2 b 0) = ((Cert.Pose.ang 0 2 (y b).1 : ℝ) : EReal) := fun b => by
    rw [t02, h56, h4]; exact tng2_coe (fun b => (y b).1 0) (fun b => (y b).1 2) b
  have h126 : Step.b126 j (embs x) = col fun b => (Cert.Pose.turn 0 2 (y b)).1 0 := by
    rw [b126_eq, h56, h4]
    exact fst2_coe 0 2 _ _ _ _ (fun b => (y b).1) (fun b => csn_coe _ b _ (ht2 b)) (fun b => sin_coe _ b _ (ht2 b))
  have h131 : Step.b131 j (embs x) = col fun b => (Cert.Pose.turn 0 2 (y b)).1 2 := by
    rw [b131_eq, h56, h4]
    exact snd2_coe 0 2 (by decide) _ _ _ _ (fun b => (y b).1) (fun b => csn_coe _ b _ (ht2 b)) (fun b => sin_coe _ b _ (ht2 b))
  have h136 : Step.b136 j (embs x) = col fun b => (Cert.Pose.turn 0 2 (y b)).2 0 := by
    rw [b136_eq, h66, h7]
    exact fst2_coe 0 2 _ _ _ _ (fun b => (y b).2) (fun b => csn_coe _ b _ (ht2 b)) (fun b => sin_coe _ b _ (ht2 b))
  have h141 : Step.b141 j (embs x) = col fun b => (Cert.Pose.turn 0 2 (y b)).2 2 := by
    rw [b141_eq, h66, h7]
    exact snd2_coe 0 2 (by decide) _ _ _ _ (fun b => (y b).2) (fun b => csn_coe _ b _ (ht2 b)) (fun b => sin_coe _ b _ (ht2 b))
  have g61 : Step.b61 j (embs x) = col fun b => (Cert.Pose.turn 0 2 (y b)).1 1 := h61
  have g71 : Step.b71 j (embs x) = col fun b => (Cert.Pose.turn 0 2 (y b)).2 1 := h71
  -- after the third
  generalize hz : (fun b => Cert.Pose.turn 0 2 (y b)) = z at *
  have hzb : ∀ b, Cert.Pose.turn 0 2 (y b) = z b := fun b => congrFun hz b
  simp only [hzb] at h126 h131 h136 h141 g61 g71
  have ht3 : ∀ b, t12 j (embs x) (ix2 b 0) = ((Cert.Pose.ang 1 2 (z b).1 : ℝ) : EReal) := fun b => by
    rw [t12, g61, h131]; exact tng2_coe (fun b => (z b).1 1) (fun b => (z b).1 2) b
  have h196 : Step.b196 j (embs x) = col fun b => (Cert.Pose.turn 1 2 (z b)).1 1 := by
    rw [b196_eq, g61, h131]
    exact fst2_coe 1 2 _ _ _ _ (fun b => (z b).1) (fun b => csn_coe _ b _ (ht3 b)) (fun b => sin_coe _ b _ (ht3 b))
  have h201 : Step.b201 j (embs x) = col fun b => (Cert.Pose.turn 1 2 (z b)).1 2 := by
    rw [b201_eq, g61, h131]
    exact snd2_coe 1 2 (by decide) _ _ _ _ (fun b => (z b).1) (fun b => csn_coe _ b _ (ht3 b)) (fun b => sin_coe _ b _ (ht3 b))
  have h206 : Step.b206 j (embs x) = col fun b => (Cert.Pose.turn 1 2 (z b)).2 1 := by
    rw [b206_eq, g71, h141]
    exact fst2_coe 1 2 _ _ _ _ (fun b => (z b).2) (fun b => csn_coe _ b _ (ht3 b)) (fun b => sin_coe _ b _ (ht3 b))
  have h211 : Step.b211 j (embs x) = col fun b => (Cert.Pose.turn 1 2 (z b)).2 2 := by
    rw [b211_eq, g71, h141]
    exact snd2_coe 1 2 (by decide) _ _ _ _ (fun b => (z b).2) (fun b => csn_coe _ b _ (ht3 b)) (fun b => sin_coe _ b _ (ht3 b))
  have hs : (fun b => Cert.Pose.sweep (x b)) = fun b => Cert.Pose.turn 1 2 (z b) := by
    funext b
    rw [Cert.Pose.sweep, hyb, hzb]
  rw [hs]
  have e : Step.step j (embs x) = ⟨Step.b126 j (embs x), Step.b196 j (embs x), Step.b201 j (embs x),
      Step.b136 j (embs x), Step.b206 j (embs x), Step.b211 j (embs x)⟩ := by unfold Step.step; rfl
  rw [e, h126, h196, h201, h136, h206, h211]
  rfl

end Cert.Reference2Ideal.Pose

end
-- ==== Proof.Pose.HostFit.lean ====
/- The second reference outside its loop: the centroids, the covariance, the rotation and the translation, at reals. -/
module

public import proofs.«01_k».proof.Proof.Pose.HostTurn
public import proofs.«01_k».proof.Proof.Pose.Fit

@[expose] public section

set_option maxRecDepth 16384

noncomputable section

namespace Cert.Reference2Ideal.Pose

open Cert.Reference2Ideal Cert.Reference2Ideal.Gen Idealize.ShloMosaic
open Cert.Pose (Cols)

variable {F : FTy → Type} [FloatOps F]

/-! ## The rotation as functions of the columns -/

/-- Three columns side by side. -/
def stack (p q r : FVec F S4x3 .f32) : FVec F S4x3x3 .f32 :=
  concatenate S4x3x3 2 [⟨S4x3x1, broadcastInDim S4x3x1 ![0, 1] bcast_S4x3_S4x3x1_0_1 p⟩,
    ⟨S4x3x1, broadcastInDim S4x3x1 ![0, 1] bcast_S4x3_S4x3x1_0_1 q⟩,
    ⟨S4x3x1, broadcastInDim S4x3x1 ![0, 1] bcast_S4x3_S4x3x1_0_1 r⟩] concatenates_S4x3x1_S4x3x1_S4x3x1_S4x3x3_d2

/-- The columns' lengths. -/
def lens (a : FVec F S4x3x3 .f32) : FVec F S4x3 .f32 :=
  Host.sqrt (Host.reduceAdd (mulf a a) (constant S_ .f32 0x00000000#32) reducesTo_S4x3x3_S4x3_d1 h_S_)

/-- The columns over their lengths, transposed. -/
def unitT (a : FVec F S4x3x3 .f32) : FVec F S4x3x3 .f32 :=
  transpose S4x3x3 [0, 2, 1] (Host.divf a (broadcastInDim S4x3x3 ![0, 1, 2] bcast_S4x1x3_S4x3x3_0_1_2
    (broadcastInDim S4x1x3 ![0, 2] bcast_S4x3_S4x1x3_0_2 (lens a)))) transposes_S4x3x3_S4x3x3_0_2_1

/-- The product of two stacks of matrices. -/
def mm (v u : FVec F S4x3x3 .f32) : FVec F S4x3x3 .f32 := Host.dotGeneral dot_S4x3x3_S4x3x3_S4x3x3_2_1_1_2_0_0 none v u

/-- The determinants. -/
def det3 (n15 : FVec F S4x3x3 .f32) : FVec F S4 .f32 :=
  have n17 : FVec F S4 .f32 := shapeCast _ (extractStridedSlice S4x1x1 ![0, 0, 0] n15 slices_S4x3x3_S4x1x1_0_0_0) shapeCasts_S4x1x1_S4
  have n19 : FVec F S4 .f32 := shapeCast _ (extractStridedSlice S4x1x1 ![0, 1, 1] n15 slices_S4x3x3_S4x1x1_0_1_1) shapeCasts_S4x1x1_S4
  have n21 : FVec F S4 .f32 := shapeCast _ (extractStridedSlice S4x1x1 ![0, 2, 2] n15 slices_S4x3x3_S4x1x1_0_2_2) shapeCasts_S4x1x1_S4
  have n24 : FVec F S4 .f32 := shapeCast _ (extractStridedSlice S4x1x1 ![0, 1, 2] n15 slices_S4x3x3_S4x1x1_0_1_2) shapeCasts_S4x1x1_S4
  have n26 : FVec F S4 .f32 := shapeCast _ (extractStridedSlice S4x1x1 ![0, 2, 1] n15 slices_S4x3x3_S4x1x1_0_2_1) shapeCasts_S4x1x1_S4
  have n31 : FVec F S4 .f32 := shapeCast _ (extractStridedSlice S4x1x1 ![0, 0, 1] n15 slices_S4x3x3_S4x1x1_0_0_1) shapeCasts_S4x1x1_S4
  have n33 : FVec F S4 .f32 := shapeCast _ (extractStridedSlice S4x1x1 ![0, 1, 0] n15 slices_S4x3x3_S4x1x1_0_1_0) shapeCasts_S4x1x1_S4
  have n36 : FVec F S4 .f32 := shapeCast _ (extractStridedSlice S4x1x1 ![0, 2, 0] n15 slices_S4x3x3_S4x1x1_0_2_0) shapeCasts_S4x1x1_S4
  have n42 : FVec F S4 .f32 := shapeCast _ (extractStridedSlice S4x1x1 ![0, 0, 2] n15 slices_S4x3x3_S4x1x1_0_0_2) shapeCasts_S4x1x1_S4
  addf (subf (mulf n17 (subf (mulf n19 n21) (mulf n24 n26))) (mulf n31 (subf (mulf n33 n21) (mulf n24 n36))))
    (mulf n42 (subf (mulf n33 n26) (mulf n19 n36)))

/-- The index of the shortest column. -/
def least (n10 : FVec F S4x3 .f32) : IVec S4 32 :=
  have n55 : FVec F S4 .f32 := shapeCast _ (extractStridedSlice S4x1 ![0, 0] n10 slices_S4x3_S4x1_0_0) shapeCasts_S4x1_S4
  have n57 : FVec F S4 .f32 := shapeCast _ (extractStridedSlice S4x1 ![0, 1] n10 slices_S4x3_S4x1_0_1) shapeCasts_S4x1_S4
  have n60 : FVec F S4 .f32 := shapeCast _ (extractStridedSlice S4x1 ![0, 2] n10 slices_S4x3_S4x1_0_2) shapeCasts_S4x1_S4
  select (andi (cmpf .ole n55 n57) (cmpf .ole n55 n60)) (broadcastInDim S4 ![] bcast_S_S4 (constantI S_ 32 0#32))
    (select (cmpf .ole n57 n60) (broadcastInDim S4 ![] bcast_S_S4 (constantI S_ 32 1#32))
      (broadcastInDim S4 ![] bcast_S_S4 (constantI S_ 32 2#32)))

/-- A column negated, where its index is the given one. -/
def flip (w : IVec S4 32) (v : FVec F S4x3x3 .f32) : FVec F S4x3x3 .f32 :=
  select (broadcastInDim S4x3x3 ![0, 1, 2] bcast_S4x1x3_S4x3x3_0_1_2
      (cmpi .eq (broadcastInDim S4x1x3 ![0, 1, 2] bcast_S1x1x3_S4x1x3_0_1_2 (broadcastInDim S1x1x3 ![2] bcast_S3_S1x1x3_2 (iotaInDim S3 32 0)))
        (broadcastInDim S4x1x3 ![0, 1, 2] bcast_S4x1x1_S4x1x3_0_1_2 (broadcastInDim S4x1x1 ![0] bcast_S4_S4x1x1_0 w))))
    (Host.negf v) v

/-- The first of two matrices where its determinant is positive, else the second. -/
def choose (P Q : FVec F S4x3x3 .f32) : FVec F S4x3x3 .f32 :=
  select (broadcastInDim S4x3x3 ![0, 1, 2] bcast_S4x1x1_S4x3x3_0_1_2
      (cmpf .ogt (broadcastInDim S4x1x1 ![0] bcast_S4_S4x1x1_0 (det3 P))
        (broadcastInDim S4x1x1 ![] bcast_S_S4x1x1 (constant S_ .f32 0x00000000#32)))) P Q

/-- The rotation from the two matrices. -/
def fitH (a v : FVec F S4x3x3 .f32) : FVec F S4x3x3 .f32 :=
  choose (mm v (unitT a)) (mm (flip (least (lens a)) v) (unitT a))

/-- The rotation of the loop's last state. -/
theorem rot_eq (s : Step.State F) : Step.R_main_v148 s
    = fitH (stack s.main_v55_2 s.main_v55_3 s.main_v55_4) (stack s.main_v55_5 s.main_v55_6 s.main_v55_7) := rfl

/-! ## The centroids and the translation -/

/-- The points' weights before their sum is divided out. -/
def ones : FVec F S4x2048x1 .f32 :=
  Host.divf (broadcastInDim S4x2048x1 ![] bcast_S_S4x2048x1 (constant S_ .f32 0x3F800000#32))
    (broadcastInDim S4x2048x1 ![] bcast_S_S4x2048x1 (constant S_ .f32 0x45000000#32))

/-- The points' weights. -/
def wts : FVec F S4x2048x1 .f32 :=
  Host.divf ones (broadcastInDim S4x2048x1 ![0, 1, 2] bcast_S4x1x1_S4x2048x1_0_1_2
    (addf (broadcastInDim S4x1x1 ![0, 2] bcast_S4x1_S4x1x1_0_2
        (Host.reduceAdd ones (constant S_ .f32 0x00000000#32) reducesTo_S4x2048x1_S4x1_d1 h_S_))
      (broadcastInDim S4x1x1 ![] bcast_S_S4x1x1 (constant S_ .f32 0x3727C5AC#32))))

/-- The points as rows. -/
def pts (x : FVec F S4x3x2048 .f32) : FVec F S4x2048x3 .f32 := transpose S4x2048x3 [0, 2, 1] x transposes_S4x3x2048_S4x2048x3_0_2_1

/-- The weights over the coordinates. -/
def wide : FVec F S4x2048x3 .f32 := broadcastInDim S4x2048x3 ![0, 1, 2] bcast_S4x2048x1_S4x2048x3_0_1_2 wts

/-- The centroids. -/
def cent (x : FVec F S4x3x2048 .f32) : FVec F S4x3 .f32 :=
  Host.reduceAdd (mulf (pts x) wide) (constant S_ .f32 0x00000000#32) reducesTo_S4x2048x3_S4x3_d1 h_S_

/-- The points less their centroids. -/
def less (x : FVec F S4x3x2048 .f32) : FVec F S4x2048x3 .f32 :=
  subf (pts x) (broadcastInDim S4x2048x3 ![0, 1, 2] bcast_S4x1x3_S4x2048x3_0_1_2 (broadcastInDim S4x1x3 ![0, 2] bcast_S4x3_S4x1x3_0_2 (cent x)))

/-- The covariance. -/
def covH (x y : FVec F S4x3x2048 .f32) : FVec F S4x3x3 .f32 :=
  Host.dotGeneral dot_S4x3x2048_S4x2048x3_S4x3x3_2_1_1_2_0_0 none
    (transpose S4x3x2048 [0, 2, 1] (less x) transposes_S4x2048x3_S4x3x2048_0_2_1) (mulf (less y) wide)

/-- The covariance the loop starts from. -/
theorem v35_eq (x y : FVec F S4x3x2048 .f32) : Step.A_main_v35 x y = covH x y := rfl

/-- The translation from the rotation and the centroids. -/
def movH (R : FVec F S4x3x3 .f32) (p q : FVec F S4x3 .f32) : FVec F S4x3x1 .f32 :=
  addf (Host.dotGeneral dot_S4x3x3_S4x3x1_S4x3x1_2_1_1_2_0_0 none (Host.negf R) (broadcastInDim S4x3x1 ![0, 1] bcast_S4x3_S4x3x1_0_1 p))
    (broadcastInDim S4x3x1 ![0, 1] bcast_S4x3_S4x3x1_0_1 q)

/-- The translation of the loop's last state. -/
theorem trans_eq (s : Step.State F) (x y : FVec F S4x3x2048 .f32) :
    Step.R_main_v179 s x y = movH (Step.R_main_v148 s) (cent x) (cent y) := rfl

/-! ## Element by element -/

/-- The stack, element by element. -/
theorem stack_at (p q r : FVec Ideal S4x3 .f32) (b : Fin 4) (i j : Fin 3) :
    stack p q r (ix3 b i j) = if j.val < 1 then p (ix2 b i) else if j.val - 1 < 1 then q (ix2 b i) else r (ix2 b i) := by
  pointwise [stack]
  rfl
/-- The lengths, element by element. -/
theorem lens_at (a : FVec Ideal S4x3x3 .f32) (b : Fin 4) (j : Fin 3) :
    lens a (ix2 b j) = Ideal.sqrt (∑ x, a (ix3 b x j) * a (ix3 b x j)) := by
  pointwise [lens]
/-- The unit columns transposed, element by element. -/
theorem unitT_at (a : FVec Ideal S4x3x3 .f32) (b : Fin 4) (j k : Fin 3) :
    unitT a (ix3 b j k) = Ideal.div (a (ix3 b k j)) (lens a (ix2 b j)) := by
  pointwise [unitT]
/-- The product, element by element. -/
theorem mm_at (v u : FVec Ideal S4x3x3 .f32) (b : Fin 4) (i k : Fin 3) :
    mm v u (ix3 b i k) = ∑ x, v (ix3 b i x) * u (ix3 b x k) := by
  pointwise [mm]
/-- The determinants, element by element. -/
theorem det3_at (v : FVec Ideal S4x3x3 .f32) (b : Fin 4) : det3 v (ix1 b) =
    v (ix3 b 0 0) * (v (ix3 b 1 1) * v (ix3 b 2 2) - v (ix3 b 1 2) * v (ix3 b 2 1)) -
        v (ix3 b 0 1) * (v (ix3 b 1 0) * v (ix3 b 2 2) - v (ix3 b 1 2) * v (ix3 b 2 0)) +
      v (ix3 b 0 2) * (v (ix3 b 1 0) * v (ix3 b 2 1) - v (ix3 b 1 1) * v (ix3 b 2 0)) := by
  pointwise [det3]
/-- The shortest column's index, element by element. -/
theorem least_at (n : FVec Ideal S4x3 .f32) (b : Fin 4) : least n (ix1 b) =
    Scalar.select
      (IntOp.andi (BitVec.ofBool (decide (n (ix2 b 0) ≤ n (ix2 b 1)))) (BitVec.ofBool (decide (n (ix2 b 0) ≤ n (ix2 b 2)))))
      (0#32) (if n (ix2 b 1) ≤ n (ix2 b 2) then 1#32 else 2#32) := by
  pointwise [least]
/-- The flipped columns, element by element. -/
theorem flip_at (w : IVec S4 32) (v : FVec Ideal S4x3x3 .f32) (b : Fin 4) (i j : Fin 3) : flip w v (ix3 b i j) =
    Scalar.select (IntOp.cmpi CmpIPredicate.eq (BitVec.ofNat 32 j.val) (w (ix1 b))) (-v (ix3 b i j)) (v (ix3 b i j)) := by
  pointwise [flip]
/-- The choice, element by element. -/
theorem choose_at (P Q : FVec Ideal S4x3x3 .f32) (b : Fin 4) (i j : Fin 3) :
    choose P Q (ix3 b i j) = if 0 < det3 P (ix1 b) then P (ix3 b i j) else Q (ix3 b i j) := by
  pointwise [choose]
/-- The undivided weights, element by element. -/
theorem ones_at (b : Fin 4) (n : Fin 2048) : ones (F := Ideal) (ix3 b n 0) = Ideal.div 1 (Ideal.ofBits FTy.f32 1157627904#32) := by
  pointwise [ones]
/-- The weights, element by element. -/
theorem wts_at (b : Fin 4) (n : Fin 2048) : wts (F := Ideal) (ix3 b n 0) =
    Ideal.div (ones (F := Ideal) (ix3 b n 0)) (∑ x : Fin 2048, ones (F := Ideal) (ix3 b x 0) + Ideal.ofBits FTy.f32 925353388#32) := by
  pointwise [wts]
/-- The widened weights, element by element. -/
theorem wide_at (b : Fin 4) (n : Fin 2048) (k : Fin 3) : wide (F := Ideal) (ix3 b n k) = wts (F := Ideal) (ix3 b n 0) := by
  pointwise [wide]
/-- The centroids, element by element. -/
theorem cent_at (x : FVec Ideal S4x3x2048 .f32) (b : Fin 4) (k : Fin 3) :
    cent x (ix2 b k) = ∑ n, x (ix3 b k n) * wide (F := Ideal) (ix3 b n k) := by
  pointwise [cent, pts]
/-- The centred points, element by element. -/
theorem less_at (x : FVec Ideal S4x3x2048 .f32) (b : Fin 4) (n : Fin 2048) (k : Fin 3) :
    less x (ix3 b n k) = x (ix3 b k n) - cent x (ix2 b k) := by
  pointwise [less, pts]
/-- The covariance, element by element. -/
theorem covH_at (x y : FVec Ideal S4x3x2048 .f32) (b : Fin 4) (i j : Fin 3) :
    covH x y (ix3 b i j) = ∑ n, less x (ix3 b n i) * (less y (ix3 b n j) * wide (F := Ideal) (ix3 b n j)) := by
  pointwise [covH]
/-- The translation, element by element. -/
theorem movH_at (R : FVec Ideal S4x3x3 .f32) (p q : FVec Ideal S4x3 .f32) (b : Fin 4) (i : Fin 3) :
    movH R p q (ix3 b i 0) = ∑ x, -R (ix3 b i x) * p (ix2 b x) + q (ix2 b i) := by
  pointwise [movH]

/-- The covariance's first column. -/
theorem v44_at (x y : FVec Ideal S4x3x2048 .f32) (b : Fin 4) (i : Fin 3) :
    Step.A_main_v44 (F := Ideal) x y (ix2 b i) = covH x y (ix3 b i 0) := by
  have e : Step.A_main_v44 (F := Ideal) x y = shapeCast S4x3 (extractStridedSlice S4x3x1 ![0, 0, 0] (covH x y) slices_S4x3x3_S4x3x1_0_0_0) shapeCasts_S4x3x1_S4x3 := rfl
  rw [e]
  pointwise
/-- The covariance's second column. -/
theorem v46_at (x y : FVec Ideal S4x3x2048 .f32) (b : Fin 4) (i : Fin 3) :
    Step.A_main_v46 (F := Ideal) x y (ix2 b i) = covH x y (ix3 b i 1) := by
  have e : Step.A_main_v46 (F := Ideal) x y = shapeCast S4x3 (extractStridedSlice S4x3x1 ![0, 0, 1] (covH x y) slices_S4x3x3_S4x3x1_0_0_1) shapeCasts_S4x3x1_S4x3 := rfl
  rw [e]
  pointwise
/-- The covariance's last column. -/
theorem v48_at (x y : FVec Ideal S4x3x2048 .f32) (b : Fin 4) (i : Fin 3) :
    Step.A_main_v48 (F := Ideal) x y (ix2 b i) = covH x y (ix3 b i 2) := by
  have e : Step.A_main_v48 (F := Ideal) x y = shapeCast S4x3 (extractStridedSlice S4x3x1 ![0, 0, 2] (covH x y) slices_S4x3x3_S4x3x1_0_0_2) shapeCasts_S4x3x1_S4x3 := rfl
  rw [e]
  pointwise
/-- The identity, element by element. -/
theorem v42_at (b : Fin 4) (i j : Fin 3) : Step.K_main_v42 (F := Ideal) (ix3 b i j) = ((Cert.Pose.idm j i : ℝ) : EReal) := by
  have e : Step.K_main_v42 (F := Ideal) (ix3 b i j)
      = FloatOps.uitofp (F := Ideal) FTy.f32 (IntOp.cmpi CmpIPredicate.eq (IntOp.addi (BitVec.ofNat 32 i.val) 0#32) (BitVec.ofNat 32 j.val)) := by
    pointwise [Step.K_main_v42, Step.K_main_v41, Step.K_main_v40, Step.K_main_v39, Step.K_main_v38, Step.K_main_v37, Step.K_main_v36, Step.K_main_c]
  rw [e]
  fin_cases i <;> fin_cases j <;> simp [Cert.Pose.idm, IntOp.cmpi, IntOp.addi, FloatOps.uitofp]
/-- The identity's first column. -/
theorem v50_at (b : Fin 4) (i : Fin 3) : Step.K_main_v50 (F := Ideal) (ix2 b i) = Step.K_main_v42 (F := Ideal) (ix3 b i 0) := by
  pointwise [Step.K_main_v50, Step.K_main_v49]
/-- The identity's second column. -/
theorem v52_at (b : Fin 4) (i : Fin 3) : Step.K_main_v52 (F := Ideal) (ix2 b i) = Step.K_main_v42 (F := Ideal) (ix3 b i 1) := by
  pointwise [Step.K_main_v52, Step.K_main_v51]
/-- The identity's last column. -/
theorem v54_at (b : Fin 4) (i : Fin 3) : Step.K_main_v54 (F := Ideal) (ix2 b i) = Step.K_main_v42 (F := Ideal) (ix3 b i 2) := by
  pointwise [Step.K_main_v54, Step.K_main_v53]

/-! ## At reals -/

/-- Clouds of reals. -/
def cloud (p : Fin 4 → Fin 3 → Fin 2048 → ℝ) : FVec Ideal S4x3x2048 .f32 := fun l => ((p (l 0) (l 1) (l 2) : ℝ) : EReal)

/-- A sum of so many equal reals. -/
theorem sum_const (n : ℕ) (r : ℝ) : ∑ _x : Fin n, ((r : ℝ) : EReal) = (((n : ℝ) * r : ℝ) : EReal) := by
  rw [Cert.Pose.sum_coe, Finset.sum_const, Finset.card_univ, Fintype.card_fin, nsmul_eq_mul]

/-- The undivided weight's value. -/
theorem ones_coe (b : Fin 4) (n : Fin 2048) : ones (F := Ideal) (ix3 b n 0) = ((1 / 2048 : ℝ) : EReal) := by
  rw [ones_at, Cert.Pose.word_count, ← EReal.coe_one, Cert.Pose.div_coe _ _ (by norm_num)]

/-- The weight's value. -/
theorem wide_coe (b : Fin 4) (n : Fin 2048) (k : Fin 3) : wide (F := Ideal) (ix3 b n k) = ((Cert.Pose.wgt : ℝ) : EReal) := by
  rw [wide_at, wts_at, ones_coe, Finset.sum_congr rfl (fun x _ => ones_coe b x), sum_const, Cert.Pose.word_eps, ← EReal.coe_add,
    Cert.Pose.div_coe _ _ (by norm_num), Cert.Pose.wgt]
  congr 1
  norm_num

variable (p q : Fin 4 → Fin 3 → Fin 2048 → ℝ)

/-- The centroids at reals. -/
theorem cent_coe (b : Fin 4) (k : Fin 3) : cent (cloud p) (ix2 b k) = ((Cert.Pose.cen (p b) k : ℝ) : EReal) := by
  rw [cent_at, Cert.Pose.cen, Finset.sum_mul, ← Cert.Pose.sum_coe]
  refine Finset.sum_congr rfl fun n _ => ?_
  rw [wide_coe, EReal.coe_mul]
  rfl

/-- The centred points at reals. -/
theorem less_coe (b : Fin 4) (n : Fin 2048) (k : Fin 3) :
    less (cloud p) (ix3 b n k) = ((p b k n - Cert.Pose.cen (p b) k : ℝ) : EReal) := by
  rw [less_at, cent_coe, EReal.coe_sub]
  rfl

/-- The covariance at reals. -/
theorem covH_coe (b : Fin 4) (i j : Fin 3) :
    covH (cloud p) (cloud q) (ix3 b i j) = ((Cert.Pose.cova (p b) (q b) j i : ℝ) : EReal) := by
  rw [covH_at, Cert.Pose.cova, Finset.sum_mul, ← Cert.Pose.sum_coe]
  refine Finset.sum_congr rfl fun n _ => ?_
  rw [less_coe, less_coe, wide_coe, ← EReal.coe_mul, ← EReal.coe_mul]
  congr 1
  ring

/-- The determinants at reals. -/
theorem det3_coe (v : FVec Ideal S4x3x3 .f32) (b : Fin 4) (m : Fin 3 → Fin 3 → ℝ) (hv : ∀ i j, v (ix3 b i j) = ((m i j : ℝ) : EReal)) :
    det3 v (ix1 b) = ((Cert.Pose.detr m : ℝ) : EReal) := by
  rw [det3_at]
  simp only [hv, ← EReal.coe_mul, ← EReal.coe_sub, ← EReal.coe_add]
  rfl

/-- The loop's first state at reals. -/
theorem init_coe : Step.init (F := Ideal) (cloud p) (cloud q) = embs fun b => (Cert.Pose.cova (p b) (q b), Cert.Pose.idm) := by
  have e : Step.init (F := Ideal) (cloud p) (cloud q) = ⟨Step.A_main_v44 (cloud p) (cloud q), Step.A_main_v46 (cloud p) (cloud q),
      Step.A_main_v48 (cloud p) (cloud q), Step.K_main_v50, Step.K_main_v52, Step.K_main_v54⟩ := by unfold Step.init; rfl
  have h0 : Step.A_main_v44 (F := Ideal) (cloud p) (cloud q) = col fun b => Cert.Pose.cova (p b) (q b) 0 := by
    funext l; rw [eq_ix2 l]; exact (v44_at _ _ _ _).trans (covH_coe p q _ _ _)
  have h1 : Step.A_main_v46 (F := Ideal) (cloud p) (cloud q) = col fun b => Cert.Pose.cova (p b) (q b) 1 := by
    funext l; rw [eq_ix2 l]; exact (v46_at _ _ _ _).trans (covH_coe p q _ _ _)
  have h2 : Step.A_main_v48 (F := Ideal) (cloud p) (cloud q) = col fun b => Cert.Pose.cova (p b) (q b) 2 := by
    funext l; rw [eq_ix2 l]; exact (v48_at _ _ _ _).trans (covH_coe p q _ _ _)
  have h3 : Step.K_main_v50 (F := Ideal) = col fun _ => Cert.Pose.idm 0 := by
    funext l; rw [eq_ix2 l]; exact (v50_at _ _).trans (v42_at _ _ _)
  have h4 : Step.K_main_v52 (F := Ideal) = col fun _ => Cert.Pose.idm 1 := by
    funext l; rw [eq_ix2 l]; exact (v52_at _ _).trans (v42_at _ _ _)
  have h5 : Step.K_main_v54 (F := Ideal) = col fun _ => Cert.Pose.idm 2 := by
    funext l; rw [eq_ix2 l]; exact (v54_at _ _).trans (v42_at _ _ _)
  rw [e, h0, h1, h2, h3, h4, h5]
  rfl

section
variable (x : Fin 4 → Cols) (h : ∀ b, Cert.Pose.det (x b).1 ≠ 0)

/-- The stacked columns at reals. -/
theorem stack_coe (m : Fin 4 → Fin 3 → Fin 3 → ℝ) (b : Fin 4) (i j : Fin 3) :
    stack (col fun b => m b 0) (col fun b => m b 1) (col fun b => m b 2) (ix3 b i j) = ((m b j i : ℝ) : EReal) := by
  rw [stack_at]
  fin_cases j <;> rfl

/-- The stack of the sweeps' columns. -/
def stA : FVec Ideal S4x3x3 .f32 := stack (col fun b => (x b).1 0) (col fun b => (x b).1 1) (col fun b => (x b).1 2)
/-- The stack of the product's columns. -/
def stV : FVec Ideal S4x3x3 .f32 := stack (col fun b => (x b).2 0) (col fun b => (x b).2 1) (col fun b => (x b).2 2)

/-- The lengths at reals. -/
theorem lens_coe (b : Fin 4) (j : Fin 3) :
    lens (stA x) (ix2 b j) = ((√(Cert.Pose.dot ((x b).1 j) ((x b).1 j)) : ℝ) : EReal) := by
  have h0 : 0 ≤ Cert.Pose.dot ((x b).1 j) ((x b).1 j) := Finset.sum_nonneg fun k _ => mul_self_nonneg _
  have e : ∀ k, stA x (ix3 b k j) = (((x b).1 j k : ℝ) : EReal) := fun k => stack_coe (fun b => (x b).1) b k j
  rw [lens_at, ← Cert.Pose.sqrt_coe _ h0, Cert.Pose.dot, ← Cert.Pose.sum3_coe]
  simp only [e, EReal.coe_mul]

include h in
/-- The unit columns at reals. -/
theorem unitT_coe (b : Fin 4) (j k : Fin 3) : unitT (stA x) (ix3 b j k) = ((Cert.Pose.uni (x b).1 j k : ℝ) : EReal) := by
  have e : stA x (ix3 b k j) = (((x b).1 j k : ℝ) : EReal) := stack_coe (fun b => (x b).1) b k j
  rw [unitT_at, lens_coe, e]
  exact Cert.Pose.div_coe _ _ (Real.sqrt_pos.2 (Cert.Pose.len_pos _ (h b) j)).ne'

/-- The shortest column's index at reals. -/
theorem least_coe (b : Fin 4) : least (lens (stA x)) (ix1 b) = BitVec.ofNat 32 (Cert.Pose.small (x b).1).val := by
  have h0 : ∀ j, 0 ≤ Cert.Pose.dot ((x b).1 j) ((x b).1 j) := fun j => Finset.sum_nonneg fun k _ => mul_self_nonneg _
  rw [least_at, lens_coe, lens_coe, lens_coe, Cert.Pose.small]
  simp only [EReal.coe_le_coe_iff, Real.sqrt_le_sqrt_iff (h0 _)]
  generalize Cert.Pose.dot ((x b).1 0) ((x b).1 0) = s0
  generalize Cert.Pose.dot ((x b).1 1) ((x b).1 1) = s1
  generalize Cert.Pose.dot ((x b).1 2) ((x b).1 2) = s2
  by_cases h01 : s0 ≤ s1 <;> by_cases h02 : s0 ≤ s2 <;> by_cases h12 : s1 ≤ s2 <;>
    simp [Scalar.select, IntOp.andi, h01, h02, h12]

/-- The flipped columns at reals. -/
theorem flip_coe (b : Fin 4) (i j : Fin 3) : flip (least (lens (stA x))) (stV x) (ix3 b i j)
    = (((if j = Cert.Pose.small (x b).1 then -(x b).2 j i else (x b).2 j i : ℝ)) : EReal) := by
  have e : stV x (ix3 b i j) = (((x b).2 j i : ℝ) : EReal) := stack_coe (fun b => (x b).2) b i j
  rw [flip_at, least_coe, e]
  generalize Cert.Pose.small (x b).1 = w
  fin_cases j <;> fin_cases w <;> simp [Scalar.select, IntOp.cmpi]

include h in
/-- `V Uᵀ` at reals. -/
theorem pos_coe (b : Fin 4) (i k : Fin 3) : mm (stV x) (unitT (stA x)) (ix3 b i k) = ((Cert.Pose.posm (x b) i k : ℝ) : EReal) := by
  have e : ∀ j, stV x (ix3 b i j) = (((x b).2 j i : ℝ) : EReal) := fun j => stack_coe (fun b => (x b).2) b i j
  rw [mm_at, Fin.sum_univ_three, unitT_coe x h, unitT_coe x h, unitT_coe x h, e, e, e, Cert.Pose.posm]
  push_cast
  rfl

include h in
/-- The matrix with the negated term at reals. -/
theorem neg_coe (b : Fin 4) (i k : Fin 3) :
    mm (flip (least (lens (stA x))) (stV x)) (unitT (stA x)) (ix3 b i k) = ((Cert.Pose.negm (x b) i k : ℝ) : EReal) := by
  rw [mm_at, Fin.sum_univ_three, unitT_coe x h, unitT_coe x h, unitT_coe x h, flip_coe, flip_coe, flip_coe, Cert.Pose.negm,
    Cert.Pose.posm]
  simp only [← EReal.coe_mul, ← EReal.coe_add]
  congr 1
  generalize Cert.Pose.small (x b).1 = w
  fin_cases w <;> simp <;> ring

end

variable (h : ∀ b, Cert.Pose.det (Cert.Pose.cova (p b) (q b)) ≠ 0)

/-- The loop's last state at reals. -/
theorem last_coe (it : ℕ → Step.State Ideal) (h0 : it 0 = Step.init (F := Ideal) (cloud p) (cloud q))
    (hs : ∀ n, it (n + 1) = Step.step n (it n)) : it 4 = embs fun b => Cert.Pose.swp (Cert.Pose.cova (p b) (q b)) := by
  rw [hs 3, hs 2, hs 1, hs 0, h0, init_coe, step_coe, step_coe, step_coe, step_coe]
  rfl

include h in
/-- The rotation at reals. -/
theorem rot_coe (b : Fin 4) (i k : Fin 3) :
    Step.R_main_v148 (embs fun b => Cert.Pose.swp (Cert.Pose.cova (p b) (q b))) (ix3 b i k)
      = ((Cert.Pose.fit (Cert.Pose.cova (p b) (q b)) (Cert.Pose.swp (Cert.Pose.cova (p b) (q b))) i k : ℝ) : EReal) := by
  have hx : ∀ b, Cert.Pose.det (Cert.Pose.swp (Cert.Pose.cova (p b) (q b))).1 ≠ 0 := fun b => by
    rw [(Cert.Pose.det_swp _).1]; exact h b
  have hd := Cert.Pose.detr_pos_iff (Cert.Pose.cova (p b) (q b)) (h b)
  have e : Step.R_main_v148 (embs fun b => Cert.Pose.swp (Cert.Pose.cova (p b) (q b)))
      = fitH (stA fun b => Cert.Pose.swp (Cert.Pose.cova (p b) (q b))) (stV fun b => Cert.Pose.swp (Cert.Pose.cova (p b) (q b))) :=
    rot_eq _
  rw [e, fitH, choose_at, det3_coe _ b _ (pos_coe _ hx b), pos_coe _ hx, neg_coe _ hx, Cert.Pose.fit]
  by_cases hp : 0 < Cert.Pose.det (Cert.Pose.cova (p b) (q b))
  · rw [if_pos (EReal.coe_pos.2 (hd.2 hp)), if_pos hp]
  · rw [if_neg (fun hc => hp (hd.1 (EReal.coe_pos.1 hc))), if_neg hp]

include h in
/-- The translation at reals. -/
theorem trans_coe (b : Fin 4) (i : Fin 3) :
    Step.R_main_v179 (embs fun b => Cert.Pose.swp (Cert.Pose.cova (p b) (q b))) (cloud p) (cloud q) (ix3 b i 0)
      = ((Cert.Pose.mov (Cert.Pose.fit (Cert.Pose.cova (p b) (q b)) (Cert.Pose.swp (Cert.Pose.cova (p b) (q b))))
          (Cert.Pose.cen (p b)) (Cert.Pose.cen (q b)) i : ℝ) : EReal) := by
  rw [trans_eq, movH_at, Fin.sum_univ_three, rot_coe p q h, rot_coe p q h, rot_coe p q h, cent_coe, cent_coe, cent_coe, cent_coe,
    Cert.Pose.mov]
  simp only [← EReal.coe_neg, ← EReal.coe_mul, ← EReal.coe_add]
  congr 1
  ring

end Cert.Reference2Ideal.Pose

end
-- ==== Proof.Pose.Regular.lean ====
/- What the precondition gives: clouds of reals, whose covariances have determinants other than zero. -/
module

public import proofs.«01_k».proof.Defs
public import proofs.«01_k».proof.Proof.Pose.HostFit
public import Idealize.ShloMosaic.Lib.ReduceAll

@[expose] public section

set_option maxRecDepth 16384

noncomputable section

namespace Cert.Pre_regular.Pose

open Idealize.ShloMosaic Cert.Reference2Ideal.Pose

/-- The predicate's shape relations. -/
theorem facts : Cert.Pre_regular.Facts where
  transposes_S4x3x2048_S4x2048x3_0_2_1 := by decide
  bcast_S_S4x2048x1 := by decide
  reducesTo_S4x2048x1_S4x1_d1 := by decide
  h_S_ := by decide
  bcast_S4x1_S4x1x1_0_2 := by decide
  bcast_S_S4x1x1 := by decide
  bcast_S4x1x1_S4x2048x1_0_1_2 := by decide
  bcast_S4x2048x1_S4x2048x3_0_1_2 := by decide
  reducesTo_S4x2048x3_S4x3_d1 := by decide
  bcast_S4x3_S4x1x3_0_2 := by decide
  bcast_S4x1x3_S4x2048x3_0_1_2 := by decide
  transposes_S4x2048x3_S4x3x2048_0_2_1 := by decide
  bcast_S_S4x3x2048 := by decide
  reducesTo_S4x3x2048_S_d0_1_2 := by decide
  slices_S4x3x3_S4x1x1_0_0_0 := by decide
  shapeCasts_S4x1x1_S4 := by decide
  slices_S4x3x3_S4x1x1_0_1_1 := by decide
  slices_S4x3x3_S4x1x1_0_2_2 := by decide
  slices_S4x3x3_S4x1x1_0_1_2 := by decide
  slices_S4x3x3_S4x1x1_0_2_1 := by decide
  slices_S4x3x3_S4x1x1_0_0_1 := by decide
  slices_S4x3x3_S4x1x1_0_1_0 := by decide
  slices_S4x3x3_S4x1x1_0_2_0 := by decide
  slices_S4x3x3_S4x1x1_0_0_2 := by decide
  bcast_S_S4 := by decide
  reducesTo_S4_S_d0 := by decide
  dot_S4x3x2048_S4x2048x3_S4x3x3_2_1_1_2_0_0_wf := by decide

attribute [local instance] facts

variable (x y : FVec Ideal S4x3x2048 .f32)

/-- Where a cloud's coordinates are less than infinity in absolute value. -/
def bounded : IVec S4x3x2048 1 :=
  cmpf .olt (Host.absf x) (broadcastInDim S4x3x2048 ![] Facts.bcast_S_S4x3x2048 (constant (F := Ideal) S_ .f32 0x7F800000#32))

/-- Where a covariance's determinant is not zero. -/
def nonzero : IVec S4 1 :=
  cmpf .une (det3 (covH x y)) (broadcastInDim S4 ![] Facts.bcast_S_S4 (constant (F := Ideal) S_ .f32 0x00000000#32))

/-- The predicate as the conjunction of its three parts. -/
theorem fn_eq : Cert.Pre_regular.fn (F := Ideal) x y =
    andi (andi (Host.reduce IntOp.andi (bounded x) (constantI S_ 1 1#1) Facts.reducesTo_S4x3x2048_S_d0_1_2 Facts.h_S_)
        (Host.reduce IntOp.andi (bounded y) (constantI S_ 1 1#1) Facts.reducesTo_S4x3x2048_S_d0_1_2 Facts.h_S_))
      (Host.reduce IntOp.andi (nonzero x y) (constantI S_ 1 1#1) Facts.reducesTo_S4_S_d0 Facts.h_S_) := rfl

/-- Two bits whose conjunction is one. -/
theorem and_one : ∀ a b : BitVec 1, IntOp.andi a b = 1#1 → a = 1#1 ∧ b = 1#1 := by decide

/-- The three parts of the predicate, each at every element. -/
theorem parts (h : Cert.Pre_regular.fn (F := Ideal) x y = fun _ => 1#1) :
    (∀ i, bounded x i = 1#1) ∧ (∀ i, bounded y i = 1#1) ∧ ∀ i, nonzero x y i = 1#1 := by
  rw [fn_eq] at h
  have j : S_.Idx := fun d => d.elim0
  have h1 := and_one _ _ (congrFun h j)
  have h2 := and_one _ _ h1.1
  exact ⟨fun i => Host.reduce_andi_all _ _ _ _ j h2.1 i, fun i => Host.reduce_andi_all _ _ _ _ j h2.2 i,
    fun i => Host.reduce_andi_all _ _ _ _ j h1.2 i⟩

/-- The bound, element by element. -/
theorem bounded_at (b : Fin 4) (k : Fin 3) (n : Fin 2048) : bounded x (ix3 b k n) =
    BitVec.ofBool (decide (FloatOps.absf (F := Ideal) (φ := .f32) (x (ix3 b k n)) < Ideal.ofBits FTy.f32 2139095040#32)) := by
  pointwise [bounded]

/-- The test of the determinants, element by element. -/
theorem nonzero_at (b : Fin 4) : nonzero x y (ix1 b) = BitVec.ofBool (decide (det3 (covH x y) (ix1 b) ≠ 0)) := by
  pointwise [nonzero]

/-- A bit made from a proposition that is one. -/
theorem of_bit (a : Prop) [Decidable a] (h : BitVec.ofBool (decide a) = 1#1) : a := by
  by_contra hn
  rw [decide_eq_false hn] at h
  exact absurd h (by decide)

/-- The word of infinity. -/
theorem word_top : Ideal.ofBits FTy.f32 2139095040#32 = ⊤ := by
  simp [Ideal.ofBits, Ideal.ieee]

/-- An extended real whose absolute value is less than infinity is a real. -/
theorem real_of_abs (u : EReal) (h : FloatOps.absf (F := Ideal) (φ := .f32) u < ⊤) : ((u.toReal : ℝ) : EReal) = u := by
  refine EReal.coe_toReal (fun e => ?_) (fun e => ?_)
  · subst e; exact absurd h (by simp [FloatOps.absf])
  · subst e; exact absurd h (by simp [FloatOps.absf])

/-- A bounded cloud is a cloud of reals. -/
theorem cloud_of (h : ∀ i, bounded x i = 1#1) : x = cloud fun b k n => (x (ix3 b k n)).toReal := by
  funext l
  rw [eq_ix3 l]
  have e : ∀ (b : Fin 4) (k : Fin 3) (n : Fin 2048), x (ix3 b k n) = ((x (ix3 b k n)).toReal : EReal) := fun b k n => by
    have hb := h (ix3 b k n)
    rw [bounded_at, word_top] at hb
    exact (real_of_abs _ (of_bit _ hb)).symm
  exact e _ _ _

/-- Arguments that the predicate admits are clouds of reals whose covariances have determinants other than zero. -/
theorem clouds (h : Cert.Pre_regular.fn (F := Ideal) x y = fun _ => 1#1) :
    ∃ p q : Fin 4 → Fin 3 → Fin 2048 → ℝ, x = cloud p ∧ y = cloud q
      ∧ ∀ b, Cert.Pose.det (Cert.Pose.cova (p b) (q b)) ≠ 0 := by
  obtain ⟨hx, hy, hd⟩ := parts x y h
  refine ⟨_, _, cloud_of x hx, cloud_of y hy, fun b hz => ?_⟩
  have hb := hd (ix1 b)
  rw [nonzero_at] at hb
  refine of_bit _ hb ?_
  rw [cloud_of x hx, cloud_of y hy, det3_coe _ b _ (fun i j => covH_coe _ _ b i j)]
  have e : ∀ K : Fin 3 → Fin 3 → ℝ, Cert.Pose.detr (fun i j => K j i) = Cert.Pose.det K := fun K => by
    unfold Cert.Pose.detr Cert.Pose.det
    ring
  rw [e]
  exact congrArg _ hz

end Cert.Pre_regular.Pose

end
-- ==== Proof.Pose.Agree.lean ====
/- The two whole programs of the second call agree: the rotation and the translation. -/
module

public import proofs.«01_k».proof.Defs
public import proofs.«01_k».proof.Proof.Gen.Reference2Ideal.StepRun
public import proofs.«01_k».proof.Proof.Pose.Array
public import proofs.«01_k».proof.Proof.Pose.KernelValue
public import proofs.«01_k».proof.Proof.Pose.Regular
public import Idealize.ShloMosaic.Lib.Claim

@[expose] public section

set_option maxRecDepth 16384

noncomputable section

namespace Cert.Reference2Ideal.Pose

open Cert.Reference2Ideal Idealize.ShloMosaic Idealize.ShloMosaic.TcCoe Idealize.SL.Sem

variable {F : FTy → Type} [FloatOps F]

/-- The states of the reference's loop from a first one. -/
def states (s : Step.State F) : ℕ → Step.State F
  | 0 => s
  | n + 1 => Step.step n (states s n)

/-- The reference's run: its results from the loop's last state, its arguments unchanged. -/
theorem run_states (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v148) = Step.R_main_v148 (states (StepRun.initState m c) 4)
      ∧ r.2.mem ((c.tc : Thread nD τ).loc main_v179) = Step.R_main_v179 (states (StepRun.initState m c) 4)
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  StepRun.run_iter m ρ (fun c => states (StepRun.initState m c)) (fun _ => rfl) (fun _ _ => rfl)

end Cert.Reference2Ideal.Pose

namespace Cert.Pose

open Idealize.ShloMosaic Idealize.ShloMosaic.TcCoe Idealize.SL.Sem

attribute [local instance] Cert.Pre_regular.Pose.facts

/-- The reference runs to the end and leaves its arguments and counters alone. -/
theorem reference_frame : Cert.quiescent_Reference2Ideal := by
  intro m ρ _
  exact (θ_run Cert.Reference2Ideal.defs _ _).mono
    (fun r h => ⟨fun c => (h c).2.2, sem_eq_zero_of_no_sems (by decide) r.2⟩)
    (Cert.Reference2Ideal.Pose.run_states (F := Ideal) m ρ)

/-- The kernel's named constant is the value its word stands for. -/
theorem kept : Cert.preserves_Kernel2_Kernel2Ideal :=
  IdealRules.named_const.statement Cert.Kernel2Ideal.κ "weight" .f32 0x39FFFF58#32 ((134217728 / 274880655723 : ℝ) : EReal) rfl

variable (x y : FVec Ideal Cert.Pre_regular.S4x3x2048 .f32)

/-- Where the predicate holds, the two rotations are the same. -/
theorem rot_same (h : Cert.Pre_regular.fn (F := Ideal) x y = fun _ => 1#1) :
    Cert.Reference2Ideal.Step.R_main_v148 (Cert.Reference2Ideal.Pose.states (Cert.Reference2Ideal.Step.init (F := Ideal) x y) 4)
      = Cert.Kernel2Ideal.Pose.rot (F := Ideal) x y := by
  obtain ⟨p, q, rfl, rfl, hd⟩ := Cert.Pre_regular.Pose.clouds x y h
  rw [Cert.Reference2Ideal.Pose.last_coe p q (Cert.Reference2Ideal.Pose.states (Cert.Reference2Ideal.Step.init (F := Ideal) _ _)) rfl (fun _ => rfl)]
  funext l
  rw [eq_ix3 l]
  exact (Cert.Reference2Ideal.Pose.rot_coe p q hd _ _ _).trans (Cert.Kernel2Ideal.Pose.rot_coe p q hd _ _ _).symm

/-- Where the predicate holds, the two translations are the same. -/
theorem trans_same (h : Cert.Pre_regular.fn (F := Ideal) x y = fun _ => 1#1) :
    Cert.Reference2Ideal.Step.R_main_v179 (Cert.Reference2Ideal.Pose.states (Cert.Reference2Ideal.Step.init (F := Ideal) x y) 4) x y
      = Cert.Kernel2Ideal.Pose.trans (F := Ideal) x y := by
  obtain ⟨p, q, rfl, rfl, hd⟩ := Cert.Pre_regular.Pose.clouds x y h
  rw [Cert.Reference2Ideal.Pose.last_coe p q (Cert.Reference2Ideal.Pose.states (Cert.Reference2Ideal.Step.init (F := Ideal) _ _)) rfl (fun _ => rfl)]
  have e : ∀ (b : Fin 4) (i : Fin 3) (j : Fin 1), Cert.Reference2Ideal.Step.R_main_v179
      (Cert.Reference2Ideal.Pose.embs fun b => Cert.Pose.swp (Cert.Pose.cova (p b) (q b)))
      (Cert.Reference2Ideal.Pose.cloud p) (Cert.Reference2Ideal.Pose.cloud q) (ix3 b i j)
        = Cert.Kernel2Ideal.Pose.trans (F := Ideal) (Cert.Reference2Ideal.Pose.cloud p) (Cert.Reference2Ideal.Pose.cloud q) (ix3 b i j) := by
    intro b i j
    obtain rfl := Subsingleton.elim j 0
    exact (Cert.Reference2Ideal.Pose.trans_coe p q hd b i).trans (Cert.Kernel2Ideal.Pose.trans_coe p q hd b i).symm
  funext l
  rw [eq_ix3 l]
  exact e _ _ _

/-- At equal arguments that the predicate admits, the kernel's results are the reference's. -/
theorem agree : Cert.algebraic_Kernel2Ideal_Reference2Ideal_pre_regular := by
  intro m g m' g' hpre hagree
  refine ⟨fun c => Cert.Kernel2Ideal.Pose.rot (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    fun c => Cert.Kernel2Ideal.Pose.trans (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)), ?_, ?_⟩
  · refine (θ_run Cert.Kernel2Ideal.defs _ _).mono (fun r h c => ⟨?_, ?_, h.2 c⟩)
      (θ_run_and (Cert.Kernel2Ideal.Pose.run_main m g) (Cert.Kernel2Ideal.Pose.unchanged m g))
    · exact ((h.1 c).1 2).trans (Cert.Kernel2Ideal.Pose.rot_final m c)
    · exact ((h.1 c).1 3).trans (Cert.Kernel2Ideal.Pose.trans_final m c)
  · refine (θ_run Cert.Reference2Ideal.defs _ _).mono (fun r h c => ⟨(h c).1.trans ?_, (h c).2.1.trans ?_, (h c).2.2⟩)
      (Cert.Reference2Ideal.Pose.run_states (F := Ideal) m' g')
    · unfold Cert.Reference2Ideal.StepRun.initState
      rw [(hagree c).1, (hagree c).2]
      exact rot_same _ _ (hpre c)
    · unfold Cert.Reference2Ideal.StepRun.initState
      rw [(hagree c).1, (hagree c).2]
      exact trans_same _ _ (hpre c)

end Cert.Pose

end
-- ==== Proof.lean ====
module

public import proofs.«01_k».proof.Proof.Gen.Reference2Ideal.Step
public import proofs.«01_k».proof.Proof.Gen.Reference2Ideal.StepRun
public import proofs.«01_k».proof.Proof.Gen.Kernel2.Frame
public import proofs.«01_k».proof.Proof.Gen.Kernel2.Skeleton
public import proofs.«01_k».proof.Proof.Gen.Kernel2Ideal.Skeleton
public import proofs.«01_k».proof.Proof.Gen.Kernel2.Loops
public import proofs.«01_k».proof.Proof.Gen.Kernel2Ideal.Loops
public import proofs.«01_k».proof.Proof.Gen.Kernel2Ideal.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Corr.Agree
public import proofs.«01_k».proof.Proof.Pose.Kernel2Run
public import proofs.«01_k».proof.Proof.Pose.Kernel2IdealRun
public import proofs.«01_k».proof.Proof.Pose.Agree
public import Idealize.ShloMosaic.Adequacy
public import Idealize.ShloMosaic.Init

@[expose] public section

noncomputable section

namespace Cert.Proof

open Idealize.ShloMosaic Idealize.SL.Sem Cert.Kernel

/-- The claims of the two calls: the runs with quiescent ends, the idealised texts kept, and equal results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_regular.Pose.facts,
  fun m ρ _ => Cert.Kernel.Gen.frame m ρ, fun m ρ _ => Cert.KernelIdeal.Gen.frame m ρ, reference_frame,
  fun m ρ _ => Cert.Kernel2.Pose.frame m ρ, fun m ρ _ => Cert.Kernel2Ideal.Pose.frame m ρ,
  fun m ρ _ => Cert.Kernel2Ideal.Pose.frame m ρ, Cert.Pose.reference_frame,
  fun m ρ _ => Cert.Pose.reference_frame m ρ trivial,
  trivial, agree, Cert.Pose.kept, Cert.Pose.agree⟩

end Cert.Proof

end
